-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_vocabulary [hPre_tokens_in_vocabulary : Cert.Pre_tokens_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocabulary [hPre_tokens_in_vocabulary : Cert.Pre_tokens_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tokens_in_vocabulary [hKernelIdeal : Cert.KernelIdeal.Facts] [hPre_tokens_in_vocabulary : Cert.Pre_tokens_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_vocabulary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tokens_in_vocabulary [hReferenceIdeal : Cert.ReferenceIdeal.Facts] [hPre_tokens_in_vocabulary : Cert.Pre_tokens_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tokens_in_vocabulary [hKernelIdeal : Cert.KernelIdeal.Facts] [hReferenceIdeal : Cert.ReferenceIdeal.Facts] [hPre_tokens_in_vocabulary : Cert.Pre_tokens_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tokens_in_vocabulary : Cert.Pre_tokens_in_vocabulary.Facts),
    quiescent_Kernel (hKernel := hKernel)
    ∧ quiescent_KernelIdeal (hKernelIdeal := hKernelIdeal)
    ∧ quiescent_KernelIdeal_pre_tokens_in_vocabulary (hKernelIdeal := hKernelIdeal) (hPre_tokens_in_vocabulary := hPre_tokens_in_vocabulary)
    ∧ quiescent_ReferenceIdeal (hReferenceIdeal := hReferenceIdeal)
    ∧ quiescent_ReferenceIdeal_pre_tokens_in_vocabulary (hReferenceIdeal := hReferenceIdeal) (hPre_tokens_in_vocabulary := hPre_tokens_in_vocabulary)
    ∧ preserves_Kernel_KernelIdeal
    ∧ algebraic_KernelIdeal_ReferenceIdeal_pre_tokens_in_vocabulary (hKernelIdeal := hKernelIdeal) (hReferenceIdeal := hReferenceIdeal) (hPre_tokens_in_vocabulary := hPre_tokens_in_vocabulary)
-- ==== Pre_tokens_in_vocabulary.lean ====
abbrev S64x64 : Shape := ⟨2, ![64, 64]⟩
abbrev S1000x256 : Shape := ⟨2, ![1000, 256]⟩
abbrev S256x1536 : Shape := ⟨2, ![256, 1536]⟩
abbrev S512x1536 : Shape := ⟨2, ![512, 1536]⟩
abbrev S1536 : Shape := ⟨1, ![1536]⟩
abbrev S512x1000 : Shape := ⟨2, ![512, 1000]⟩
abbrev S1000 : Shape := ⟨1, ![1000]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel

variable [Facts]

def fn {F : FTy → Type} [FloatOps F] (main_arg0 : IVec S64x64 32) (main_arg1 : FVec F S1000x256 .f32) (main_arg2 : FVec F S256x1536 .f32) (main_arg3 : FVec F S512x1536 .f32) (main_arg4 : FVec F S1536 .f32) (main_arg5 : FVec F S1536 .f32) (main_arg6 : FVec F S512x1000 .f32) (main_arg7 : FVec F S1000 .f32) : IVec S_ 1 :=
  let main_c : IVec S_ 32 := constantI S_ 32 0#32
  let main_v0 : IVec S64x64 32 := broadcastInDim S64x64 ![] bcast_S_S64x64 main_c
  let main_v1 : IVec S64x64 1 := cmpi .sge main_arg0 main_v0
  let main_c_0 : IVec S_ 32 := constantI S_ 32 1000#32
  let main_v2 : IVec S64x64 32 := broadcastInDim S64x64 ![] bcast_S_S64x64 main_c_0
  let main_v3 : IVec S64x64 1 := cmpi .slt main_arg0 main_v2
  let main_v4 : IVec S64x64 1 := andi main_v1 main_v3
  let main_c_1 : IVec S_ 1 := constantI S_ 1 1#1
  let main_v5 : IVec S_ 1 := (fun x v => Host.reduce IntOp.andi x v reducesTo_S64x64_S_d0_1 h_S_) main_v4 main_c_1
  main_v5
-- ==== Kernel.lean ====
abbrev S64x64 : Shape := ⟨2, ![64, 64]⟩
abbrev S1000x256 : Shape := ⟨2, ![1000, 256]⟩
abbrev S256x1536 : Shape := ⟨2, ![256, 1536]⟩
abbrev S512x1536 : Shape := ⟨2, ![512, 1536]⟩
abbrev S1536 : Shape := ⟨1, ![1536]⟩
abbrev S512x1000 : Shape := ⟨2, ![512, 1000]⟩
abbrev S1000 : Shape := ⟨1, ![1000]⟩
abbrev S_ : Shape := ⟨0, ![]⟩
abbrev S512x2536 : Shape := ⟨2, ![512, 2536]⟩
abbrev S1x1536 : Shape := ⟨2, ![1, 1536]⟩
abbrev S1x1000 : Shape := ⟨2, ![1, 1000]⟩
abbrev S64x64x1000 : Shape := ⟨3, ![64, 64, 1000]⟩
abbrev S64x1000 : Shape := ⟨2, ![64, 1000]⟩
abbrev S1x64x1000 : Shape := ⟨3, ![1, 64, 1000]⟩
abbrev S64x512 : Shape := ⟨2, ![64, 512]⟩
abbrev S64x1 : Shape := ⟨2, ![64, 1]⟩
abbrev S64x1536 : Shape := ⟨2, ![64, 1536]⟩
abbrev S64x256 : Shape := ⟨2, ![64, 256]⟩
abbrev S64x2536 : Shape := ⟨2, ![64, 2536]⟩
abbrev S64 : Shape := ⟨1, ![64]⟩

abbrev nBuf : Space → Nat
  | .hbm => 21
  | .vmem => 8
  | .smem => 0
  | _ => 0

abbrev bufTy : (tb : Table) → Fin (tcTables nBuf tb) → BufTy
  | .hbm, ⟨0, _⟩ => ⟨S64x64, .i32⟩
  | .hbm, ⟨1, _⟩ => ⟨S1000x256, .f32⟩
  | .hbm, ⟨2, _⟩ => ⟨S256x1536, .f32⟩
  | .hbm, ⟨3, _⟩ => ⟨S512x1536, .f32⟩
  | .hbm, ⟨4, _⟩ => ⟨S1536, .f32⟩
  | .hbm, ⟨5, _⟩ => ⟨S1536, .f32⟩
  | .hbm, ⟨6, _⟩ => ⟨S512x1000, .f32⟩
  | .hbm, ⟨7, _⟩ => ⟨S1000, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .i1⟩
  | .hbm, ⟨12, _⟩ => ⟨S_, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S512x2536, .f32⟩
  | .hbm, ⟨17, _⟩ => ⟨S1x1536, .f32⟩
  | .hbm, ⟨18, _⟩ => ⟨S1x1536, .f32⟩
  | .hbm, ⟨19, _⟩ => ⟨S1x1000, .f32⟩
  | .hbm, ⟨20, _⟩ => ⟨S64x64x1000, .f32⟩
  | .local _ .vmem, ⟨0, _⟩ => ⟨S64x64, .i32⟩
  | .local _ .vmem, ⟨1, _⟩ => ⟨S1000x256, .f32⟩
  | .local _ .vmem, ⟨2, _⟩ => ⟨S256x1536, .f32⟩
  | .local _ .vmem, ⟨3, _⟩ => ⟨S512x2536, .f32⟩
  | .local _ .vmem, ⟨4, _⟩ => ⟨S1x1536, .f32⟩
  | .local _ .vmem, ⟨5, _⟩ => ⟨S1x1536, .f32⟩
  | .local _ .vmem, ⟨6, _⟩ => ⟨S1x1000, .f32⟩
  | .local _ .vmem, ⟨7, _⟩ => ⟨S64x64x1000, .f32⟩
  | _, _ => ⟨S64x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c1_i32_20 : BitVec 32 := 1#32
  let c63_i32 : BitVec 32 := 63#32
  let v27 : BitVec 32 := Scalar.addi c1_i32_20 c63_i32
  let c1_i32_21 : BitVec 32 := 1#32
  ⟨c1_i32_20, v27, c1_i32_21⟩
def k0_off1 (k0_t1 : Fin k0_t1_loop.trips) : Fin 3 → Nat :=
  let c1_i32_20 : BitVec 32 := 1#32
  let c1_i32_21 : BitVec 32 := 1#32
  let arg8 : BitVec 32 := Scf.iv c1_i32_20 c1_i32_21 k0_t1
  let v62 : Index := Scalar.indexCast arg8
  let c0_27 : Index := 0#32
  let c0_28 : Index := 0#32
  ![v62.toNat, 0, 0]
abbrev stage0_0 : Fin 1 → Memref sig .tc .vmem S64x64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x2536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64x1000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x64 : Shape := ⟨2, ![64, 64]⟩
abbrev S1000x256 : Shape := ⟨2, ![1000, 256]⟩
abbrev S256x1536 : Shape := ⟨2, ![256, 1536]⟩
abbrev S512x1536 : Shape := ⟨2, ![512, 1536]⟩
abbrev S1536 : Shape := ⟨1, ![1536]⟩
abbrev S512x1000 : Shape := ⟨2, ![512, 1000]⟩
abbrev S1000 : Shape := ⟨1, ![1000]⟩
abbrev S_ : Shape := ⟨0, ![]⟩
abbrev S64x1000 : Shape := ⟨2, ![64, 1000]⟩
abbrev S1 : Shape := ⟨1, ![1]⟩
abbrev S64 : Shape := ⟨1, ![64]⟩
abbrev S64x512 : Shape := ⟨2, ![64, 512]⟩
abbrev S63x64 : Shape := ⟨2, ![63, 64]⟩
abbrev S63x64x1000 : Shape := ⟨3, ![63, 64, 1000]⟩
abbrev S1x64 : Shape := ⟨2, ![1, 64]⟩
abbrev S64x1 : Shape := ⟨2, ![64, 1]⟩
abbrev S1x1 : Shape := ⟨2, ![1, 1]⟩
abbrev S64x256 : Shape := ⟨2, ![64, 256]⟩
abbrev S64x1536 : Shape := ⟨2, ![64, 1536]⟩
abbrev S1x1536 : Shape := ⟨2, ![1, 1536]⟩
abbrev S1x1000 : Shape := ⟨2, ![1, 1000]⟩
abbrev S1x64x1000 : Shape := ⟨3, ![1, 64, 1000]⟩
abbrev S64x64x1000 : Shape := ⟨3, ![64, 64, 1000]⟩

abbrev nBuf : Space → Nat
  | .hbm => 133
  | .vmem => 0
  | .smem => 0
  | _ => 0

abbrev hbmTy0_0 (i : Nat) : BufTy := match i % 128 with
  | 0 => ⟨S64x64, .i32⟩
  | 1 => ⟨S1000x256, .f32⟩
  | 2 => ⟨S256x1536, .f32⟩
  | 3 => ⟨S512x1536, .f32⟩
  | 4 => ⟨S1536, .f32⟩
  | 5 => ⟨S1536, .f32⟩
  | 6 => ⟨S512x1000, .f32⟩
  | 7 => ⟨S1000, .f32⟩
  | 8 => ⟨S64x64, .f32⟩
  | 9 => ⟨S_, .f32⟩
  | 10 => ⟨S64x1000, .f32⟩
  | 11 => ⟨S_, .i32⟩
  | 12 => ⟨S1, .i32⟩
  | 13 => ⟨S_, .f32⟩
  | 14 => ⟨S64, .f32⟩
  | 15 => ⟨S64x1000, .f32⟩
  | 16 => ⟨S_, .f32⟩
  | 17 => ⟨S64x512, .f32⟩
  | 18 => ⟨S_, .i32⟩
  | 19 => ⟨S64, .i32⟩
  | 20 => ⟨S64x64, .f32⟩
  | 21 => ⟨S63x64, .f32⟩
  | 22 => ⟨S64x64, .i32⟩
  | 23 => ⟨S63x64, .i32⟩
  | 24 => ⟨S_, .f32⟩
  | 25 => ⟨S63x64x1000, .f32⟩
  | 26 => ⟨S_, .i32⟩
  | 27 => ⟨S63x64, .f32⟩
  | 28 => ⟨S63x64, .i32⟩
  | 29 => ⟨S1000x256, .f32⟩
  | 30 => ⟨S256x1536, .f32⟩
  | 31 => ⟨S1536, .f32⟩
  | 32 => ⟨S512x1536, .f32⟩
  | 33 => ⟨S1536, .f32⟩
  | 34 => ⟨S512x1000, .f32⟩
  | 35 => ⟨S1000, .f32⟩
  | 36 => ⟨S_, .i32⟩
  | 37 => ⟨S64x512, .f32⟩
  | 38 => ⟨S64, .i32⟩
  | 39 => ⟨S63x64x1000, .f32⟩
  | 40 => ⟨S_, .i32⟩
  | 41 => ⟨S_, .i1⟩
  | 42 => ⟨S_, .i32⟩
  | 43 => ⟨S1x64, .f32⟩
  | 44 => ⟨S64, .f32⟩
  | 45 => ⟨S_, .i32⟩
  | 46 => ⟨S1x64, .i32⟩
  | 47 => ⟨S64, .i32⟩
  | 48 => ⟨S_, .i32⟩
  | 49 => ⟨S64, .i32⟩
  | 50 => ⟨S64, .i1⟩
  | 51 => ⟨S_, .i32⟩
  | 52 => ⟨S64, .i32⟩
  | 53 => ⟨S64, .i32⟩
  | 54 => ⟨S64, .i32⟩
  | 55 => ⟨S64x1, .i32⟩
  | 56 => ⟨S1, .i32⟩
  | 57 => ⟨S_, .i32⟩
  | 58 => ⟨S64x1, .i32⟩
  | 59 => ⟨S64x1, .i1⟩
  | 60 => ⟨S1x1, .i32⟩
  | 61 => ⟨S64x1, .i32⟩
  | 62 => ⟨S64x1, .i1⟩
  | 63 => ⟨S64x1, .i1⟩
  | 64 => ⟨S_, .i1⟩
  | 65 => ⟨S64, .i1⟩
  | 66 => ⟨S64x256, .f32⟩
  | 67 => ⟨S64x256, .i1⟩
  | 68 => ⟨S_, .f32⟩
  | 69 => ⟨S64x256, .f32⟩
  | 70 => ⟨S64x256, .f32⟩
  | 71 => ⟨S64x1536, .f32⟩
  | 72 => ⟨S1x1536, .f32⟩
  | 73 => ⟨S64x1536, .f32⟩
  | 74 => ⟨S64x1536, .f32⟩
  | 75 => ⟨S64x1536, .f32⟩
  | 76 => ⟨S1x1536, .f32⟩
  | 77 => ⟨S64x1536, .f32⟩
  | 78 => ⟨S64x1536, .f32⟩
  | 79 => ⟨S64x512, .f32⟩
  | 80 => ⟨S64x512, .f32⟩
  | 81 => ⟨S64x512, .f32⟩
  | 82 => ⟨S64x512, .f32⟩
  | 83 => ⟨S64x512, .f32⟩
  | 84 => ⟨S64x512, .f32⟩
  | 85 => ⟨S64x512, .f32⟩
  | 86 => ⟨S64x512, .f32⟩
  | 87 => ⟨S64x512, .f32⟩
  | 88 => ⟨S_, .f32⟩
  | 89 => ⟨S64x512, .f32⟩
  | 90 => ⟨S64x512, .f32⟩
  | 91 => ⟨S_, .f32⟩
  | 92 => ⟨S64x512, .f32⟩
  | 93 => ⟨S64x512, .f32⟩
  | 94 => ⟨S64x512, .f32⟩
  | 95 => ⟨S64x512, .f32⟩
  | 96 => ⟨S64x512, .f32⟩
  | 97 => ⟨S_, .f32⟩
  | 98 => ⟨S64x512, .f32⟩
  | 99 => ⟨S64x512, .f32⟩
  | 100 => ⟨S_, .f32⟩
  | 101 => ⟨S64x512, .f32⟩
  | 102 => ⟨S64x512, .f32⟩
  | 103 => ⟨S64x512, .f32⟩
  | 104 => ⟨S64x512, .f32⟩
  | 105 => ⟨S64x512, .f32⟩
  | 106 => ⟨S_, .f32⟩
  | 107 => ⟨S64x512, .f32⟩
  | 108 => ⟨S64x512, .f32⟩
  | 109 => ⟨S64x512, .f32⟩
  | 110 => ⟨S64x512, .f32⟩
  | 111 => ⟨S64x512, .f32⟩
  | 112 => ⟨S64x1000, .f32⟩
  | 113 => ⟨S1x1000, .f32⟩
  | 114 => ⟨S64x1000, .f32⟩
  | 115 => ⟨S64x1000, .f32⟩
  | 116 => ⟨S64x1000, .i32⟩
  | 117 => ⟨S_, .f32⟩
  | 118 => ⟨S_, .i32⟩
  | 119 => ⟨S64, .f32⟩
  | 120 => ⟨S64, .i32⟩
  | 121 => ⟨S_, .f32⟩
  | 122 => ⟨S64, .f32⟩
  | 123 => ⟨S64, .i1⟩
  | 124 => ⟨S64, .i32⟩
  | 125 => ⟨S1x64x1000, .f32⟩
  | 126 => ⟨S_, .i32⟩
  | 127 => ⟨S_, .i32⟩
  | _ => ⟨S64x64, .i32⟩

abbrev hbmTy0_1 (i : Nat) : BufTy := match i % 128 with
  | 0 => ⟨S63x64x1000, .f32⟩
  | 1 => ⟨S_, .i32⟩
  | 2 => ⟨S_, .i32⟩
  | 3 => ⟨S1x64x1000, .f32⟩
  | 4 => ⟨S64x64x1000, .f32⟩
  | _ => ⟨S64x64, .i32⟩

abbrev hbmTy (i : Nat) : BufTy := match i / 128 with
  | 0 => hbmTy0_0 i
  | 1 => hbmTy0_1 i
  | _ => ⟨S64x64, .i32⟩

abbrev bufTy : (tb : Table) → Fin (tcTables nBuf tb) → BufTy
  | .hbm, ⟨i, _⟩ => hbmTy i
  | _, _ => ⟨S64x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_cst_2 : Ref sig .tc := ⟨.hbm, 16, rfl⟩
abbrev main_v4 : Ref sig .tc := ⟨.hbm, 17, rfl⟩
abbrev main_c_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_c_5 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v11_3 : Ref sig .tc := ⟨.hbm, 30, rfl⟩
abbrev main_v11_4 : Ref sig .tc := ⟨.hbm, 31, rfl⟩
abbrev main_v11_5 : Ref sig .tc := ⟨.hbm, 32, rfl⟩
abbrev main_v11_6 : Ref sig .tc := ⟨.hbm, 33, rfl⟩
abbrev main_v11_7 : Ref sig .tc := ⟨.hbm, 34, rfl⟩
abbrev main_v11_8 : Ref sig .tc := ⟨.hbm, 35, rfl⟩
abbrev main_v11_9 : Ref sig .tc := ⟨.hbm, 36, rfl⟩
abbrev main_v11_10 : Ref sig .tc := ⟨.hbm, 37, rfl⟩
abbrev main_v11_11 : Ref sig .tc := ⟨.hbm, 38, rfl⟩
abbrev main_v11_12 : Ref sig .tc := ⟨.hbm, 39, rfl⟩
abbrev main_while0c_c_18 : Ref sig .tc := ⟨.hbm, 40, rfl⟩
abbrev main_while0c_v14 : Ref sig .tc := ⟨.hbm, 41, rfl⟩
abbrev main_while0b_call0_c : Ref sig .tc := ⟨.hbm, 42, rfl⟩
abbrev main_while0b_call0_v0 : Ref sig .tc := ⟨.hbm, 43, rfl⟩
abbrev main_while0b_v14 : Ref sig .tc := ⟨.hbm, 44, rfl⟩
abbrev main_while0b_call1_c : Ref sig .tc := ⟨.hbm, 45, rfl⟩
abbrev main_while0b_call1_v0 : Ref sig .tc := ⟨.hbm, 46, rfl⟩
abbrev main_while0b_v15 : Ref sig .tc := ⟨.hbm, 47, rfl⟩
abbrev main_while0b_call2_c : Ref sig .tc := ⟨.hbm, 48, rfl⟩
abbrev main_while0b_call2_v0 : Ref sig .tc := ⟨.hbm, 49, rfl⟩
abbrev main_while0b_call2_v1 : Ref sig .tc := ⟨.hbm, 50, rfl⟩
abbrev main_while0b_call2_c_0 : Ref sig .tc := ⟨.hbm, 51, rfl⟩
abbrev main_while0b_call2_v2 : Ref sig .tc := ⟨.hbm, 52, rfl⟩
abbrev main_while0b_call2_v3 : Ref sig .tc := ⟨.hbm, 53, rfl⟩
abbrev main_while0b_call2_v4 : Ref sig .tc := ⟨.hbm, 54, rfl⟩
abbrev main_while0b_call2_v5 : Ref sig .tc := ⟨.hbm, 55, rfl⟩
abbrev main_while0b_call2_c_1 : Ref sig .tc := ⟨.hbm, 56, rfl⟩
abbrev main_while0b_call2_c_2 : Ref sig .tc := ⟨.hbm, 57, rfl⟩
abbrev main_while0b_call2_v6 : Ref sig .tc := ⟨.hbm, 58, rfl⟩
abbrev main_while0b_call2_v7 : Ref sig .tc := ⟨.hbm, 59, rfl⟩
abbrev main_while0b_call2_v8 : Ref sig .tc := ⟨.hbm, 60, rfl⟩
abbrev main_while0b_call2_v9 : Ref sig .tc := ⟨.hbm, 61, rfl⟩
abbrev main_while0b_call2_v10 : Ref sig .tc := ⟨.hbm, 62, rfl⟩
abbrev main_while0b_call2_v11 : Ref sig .tc := ⟨.hbm, 63, rfl⟩
abbrev main_while0b_call2_c_3 : Ref sig .tc := ⟨.hbm, 64, rfl⟩
abbrev main_while0b_call2_v12 : Ref sig .tc := ⟨.hbm, 65, rfl⟩
abbrev main_while0b_call2_v13 : Ref sig .tc := ⟨.hbm, 66, rfl⟩
abbrev main_while0b_call2_v14 : Ref sig .tc := ⟨.hbm, 67, rfl⟩
abbrev main_while0b_call2_cst : Ref sig .tc := ⟨.hbm, 68, rfl⟩
abbrev main_while0b_call2_v15 : Ref sig .tc := ⟨.hbm, 69, rfl⟩
abbrev main_while0b_v16 : Ref sig .tc := ⟨.hbm, 70, rfl⟩
abbrev main_while0b_v17 : Ref sig .tc := ⟨.hbm, 71, rfl⟩
abbrev main_while0b_v18 : Ref sig .tc := ⟨.hbm, 72, rfl⟩
abbrev main_while0b_v19 : Ref sig .tc := ⟨.hbm, 73, rfl⟩
abbrev main_while0b_v20 : Ref sig .tc := ⟨.hbm, 74, rfl⟩
abbrev main_while0b_v21 : Ref sig .tc := ⟨.hbm, 75, rfl⟩
abbrev main_while0b_v22 : Ref sig .tc := ⟨.hbm, 76, rfl⟩
abbrev main_while0b_v23 : Ref sig .tc := ⟨.hbm, 77, rfl⟩
abbrev main_while0b_v24 : Ref sig .tc := ⟨.hbm, 78, rfl⟩
abbrev main_while0b_v25 : Ref sig .tc := ⟨.hbm, 79, rfl⟩
abbrev main_while0b_v26 : Ref sig .tc := ⟨.hbm, 80, rfl⟩
abbrev main_while0b_v27 : Ref sig .tc := ⟨.hbm, 81, rfl⟩
abbrev main_while0b_v28 : Ref sig .tc := ⟨.hbm, 82, rfl⟩
abbrev main_while0b_v29 : Ref sig .tc := ⟨.hbm, 83, rfl⟩
abbrev main_while0b_v30 : Ref sig .tc := ⟨.hbm, 84, rfl⟩
abbrev main_while0b_v31 : Ref sig .tc := ⟨.hbm, 85, rfl⟩
abbrev main_while0b_v32 : Ref sig .tc := ⟨.hbm, 86, rfl⟩
abbrev main_while0b_v33 : Ref sig .tc := ⟨.hbm, 87, rfl⟩
abbrev main_while0b_cst_18 : Ref sig .tc := ⟨.hbm, 88, rfl⟩
abbrev main_while0b_v34 : Ref sig .tc := ⟨.hbm, 89, rfl⟩
abbrev main_while0b_v35 : Ref sig .tc := ⟨.hbm, 90, rfl⟩
abbrev main_while0b_cst_19 : Ref sig .tc := ⟨.hbm, 91, rfl⟩
abbrev main_while0b_v36 : Ref sig .tc := ⟨.hbm, 92, rfl⟩
abbrev main_while0b_v37 : Ref sig .tc := ⟨.hbm, 93, rfl⟩
abbrev main_while0b_v38 : Ref sig .tc := ⟨.hbm, 94, rfl⟩
abbrev main_while0b_v39 : Ref sig .tc := ⟨.hbm, 95, rfl⟩
abbrev main_while0b_v40 : Ref sig .tc := ⟨.hbm, 96, rfl⟩
abbrev main_while0b_cst_20 : Ref sig .tc := ⟨.hbm, 97, rfl⟩
abbrev main_while0b_v41 : Ref sig .tc := ⟨.hbm, 98, rfl⟩
abbrev main_while0b_v42 : Ref sig .tc := ⟨.hbm, 99, rfl⟩
abbrev main_while0b_cst_21 : Ref sig .tc := ⟨.hbm, 100, rfl⟩
abbrev main_while0b_v43 : Ref sig .tc := ⟨.hbm, 101, rfl⟩
abbrev main_while0b_v44 : Ref sig .tc := ⟨.hbm, 102, rfl⟩
abbrev main_while0b_v45 : Ref sig .tc := ⟨.hbm, 103, rfl⟩
abbrev main_while0b_v46 : Ref sig .tc := ⟨.hbm, 104, rfl⟩
abbrev main_while0b_v47 : Ref sig .tc := ⟨.hbm, 105, rfl⟩
abbrev main_while0b_cst_22 : Ref sig .tc := ⟨.hbm, 106, rfl⟩
abbrev main_while0b_v48 : Ref sig .tc := ⟨.hbm, 107, rfl⟩
abbrev main_while0b_v49 : Ref sig .tc := ⟨.hbm, 108, rfl⟩
abbrev main_while0b_v50 : Ref sig .tc := ⟨.hbm, 109, rfl⟩
abbrev main_while0b_v51 : Ref sig .tc := ⟨.hbm, 110, rfl⟩
abbrev main_while0b_v52 : Ref sig .tc := ⟨.hbm, 111, rfl⟩
abbrev main_while0b_v53 : Ref sig .tc := ⟨.hbm, 112, rfl⟩
abbrev main_while0b_v54 : Ref sig .tc := ⟨.hbm, 113, rfl⟩
abbrev main_while0b_v55 : Ref sig .tc := ⟨.hbm, 114, rfl⟩
abbrev main_while0b_v56 : Ref sig .tc := ⟨.hbm, 115, rfl⟩
abbrev main_while0b_call3_v0 : Ref sig .tc := ⟨.hbm, 116, rfl⟩
abbrev main_while0b_call3_cst : Ref sig .tc := ⟨.hbm, 117, rfl⟩
abbrev main_while0b_call3_c : Ref sig .tc := ⟨.hbm, 118, rfl⟩
abbrev main_while0b_call3_v1_0 : Ref sig .tc := ⟨.hbm, 119, rfl⟩
abbrev main_while0b_v57 : Ref sig .tc := ⟨.hbm, 120, rfl⟩
abbrev main_while0b_cst_23 : Ref sig .tc := ⟨.hbm, 121, rfl⟩
abbrev main_while0b_v58 : Ref sig .tc := ⟨.hbm, 122, rfl⟩
abbrev main_while0b_v59 : Ref sig .tc := ⟨.hbm, 123, rfl⟩
abbrev main_while0b_v60 : Ref sig .tc := ⟨.hbm, 124, rfl⟩
abbrev main_while0b_call5_v0 : Ref sig .tc := ⟨.hbm, 125, rfl⟩
abbrev main_while0b_call5_c : Ref sig .tc := ⟨.hbm, 126, rfl⟩
abbrev main_while0b_call5_c_0 : Ref sig .tc := ⟨.hbm, 127, rfl⟩
abbrev main_while0b_v61 : Ref sig .tc := ⟨.hbm, 128, rfl⟩
abbrev main_while0b_c_24 : Ref sig .tc := ⟨.hbm, 129, rfl⟩
abbrev main_while0b_v62 : Ref sig .tc := ⟨.hbm, 130, rfl⟩
abbrev main_v12 : Ref sig .tc := ⟨.hbm, 131, rfl⟩
abbrev main_v13 : Ref sig .tc := ⟨.hbm, 132, rfl⟩

abbrev nD : Nat := 1
abbrev τ : Topo := Topo.v7x

variable {F : FTy → Type} [FloatOps F]

abbrev main_while0_count : Scf.Loop 32 := ⟨0#32, 63#32, 1#32⟩
-- ==== Proof.V.RefStep.lean ====
/- What one trip of the reference's loop computes: the embedding rows of the tokens, one step of the
   recurrent cell, the logits, their arg-max and the token fed to the next trip, each a function of
   what the trip reads; and that the loop's body leaves exactly these in the carried buffers. -/
module

public import proofs.«01_k».proof.Proof.Gen.ReferenceIdeal.Run

@[expose] public section

set_option maxRecDepth 16384

noncomputable section

namespace Cert.ReferenceIdeal.Step

open Cert.ReferenceIdeal Cert.ReferenceIdeal.Gen Cert.ReferenceIdeal.Value
open Idealize.ShloMosaic Idealize.ShloMosaic.TcCoe Idealize.ShloMosaic.Tactic
open Idealize.SL Idealize.SL.Sem
open Idealize.ShloMosaic.StableHlo

variable {F : FTy → Type} [FloatOps F]

/-- The row of the table each token is read at: a negative token counts from the end. -/
def rowOf (tok : IVec S64 32) : IVec S64x1 32 :=
  broadcastInDim S64x1 ![0] bcast_S64_S64x1_0
    (select (cmpi .slt tok (broadcastInDim S64 ![] bcast_S_S64 (constantI S_ 32 0#32)))
      (addi tok (broadcastInDim S64 ![] bcast_S_S64 (constantI S_ 32 1000#32))) tok)

/-- Which tokens name a row of the table. -/
def rowOk (tok : IVec S64 32) : IVec S64 1 :=
  Host.reduce IntOp.andi
    (andi (cmpi .sge (rowOf tok) (broadcastInDim S64x1 ![] bcast_S_S64x1 (constantI S_ 32 0#32)))
      (cmpi .sle (rowOf tok) (broadcastInDim S64x1 ![0, 1] bcast_S1x1_S64x1_0_1
        (broadcastInDim S1x1 ![1] bcast_S1_S1x1_1 (constantI S1 32 999#32)))))
    (constantI S_ 1 1#1) reducesTo_S64x1_S64_d1 h_S_

/-- The embedding rows of the tokens. -/
def rows (emb : FVec F S1000x256 .f32) (tok : IVec S64 32) : FVec F S64x256 .f32 :=
  select (broadcastInDim S64x256 ![0] bcast_S64_S64x256_0 (rowOk tok))
    (Host.gather gather_S1000x256_S64x1_S64x256_1_0_n_n_0_1_1256 emb (rowOf tok))
    (broadcastInDim S64x256 ![] bcast_S_S64x256 (constant S_ .f32 0x7FC00000#32))

/-- The input half of the cell's gates. -/
def gateX (x : FVec F S64x256 .f32) (W : FVec F S256x1536 .f32) (b : FVec F S1536 .f32) : FVec F S64x1536 .f32 :=
  addf (Host.dotGeneral dot_S64x256_S256x1536_S64x1536_1_0_0_1_n_n none x W)
    (broadcastInDim S64x1536 ![0, 1] bcast_S1x1536_S64x1536_0_1 (broadcastInDim S1x1536 ![1] bcast_S1536_S1x1536_1 b))

/-- The state half of the cell's gates. -/
def gateH (h : FVec F S64x512 .f32) (W : FVec F S512x1536 .f32) (b : FVec F S1536 .f32) : FVec F S64x1536 .f32 :=
  addf (Host.dotGeneral dot_S64x512_S512x1536_S64x1536_1_0_0_1_n_n none h W)
    (broadcastInDim S64x1536 ![0, 1] bcast_S1x1536_S64x1536_0_1 (broadcastInDim S1x1536 ![1] bcast_S1536_S1x1536_1 b))

/-- The constant one at every entry of a state. -/
def ones : FVec F S64x512 .f32 := broadcastInDim S64x512 ![] bcast_S_S64x512 (constant S_ .f32 0x3F800000#32)

/-- The logistic function as the reference spells it. -/
def sigm (x : FVec F S64x512 .f32) : FVec F S64x512 .f32 := Host.divf ones (addf ones (Host.exp (Host.negf x)))

/-- The reset gate. -/
def gateR (gi gh : FVec F S64x1536 .f32) : FVec F S64x512 .f32 :=
  sigm (addf (extractStridedSlice S64x512 ![0, 0] gi slices_S64x1536_S64x512_0_0)
    (extractStridedSlice S64x512 ![0, 0] gh slices_S64x1536_S64x512_0_0))

/-- The update gate. -/
def gateZ (gi gh : FVec F S64x1536 .f32) : FVec F S64x512 .f32 :=
  sigm (addf (extractStridedSlice S64x512 ![0, 512] gi slices_S64x1536_S64x512_0_512)
    (extractStridedSlice S64x512 ![0, 512] gh slices_S64x1536_S64x512_0_512))

/-- The candidate state. -/
def gateN (gi gh : FVec F S64x1536 .f32) : FVec F S64x512 .f32 :=
  Host.tanh (addf (extractStridedSlice S64x512 ![0, 1024] gi slices_S64x1536_S64x512_0_1024)
    (mulf (gateR gi gh) (extractStridedSlice S64x512 ![0, 1024] gh slices_S64x1536_S64x512_0_1024)))

/-- The next state, of the two halves of the gates and the state. -/
def cell (gi gh : FVec F S64x1536 .f32) (h : FVec F S64x512 .f32) : FVec F S64x512 .f32 :=
  addf (mulf (subf ones (gateZ gi gh)) (gateN gi gh)) (mulf (gateZ gi gh) h)

/-- The logits of a state. -/
def logits (h : FVec F S64x512 .f32) (W : FVec F S512x1000 .f32) (b : FVec F S1000 .f32) : FVec F S64x1000 .f32 :=
  addf (Host.dotGeneral dot_S64x512_S512x1000_S64x1000_1_0_0_1_n_n none h W)
    (broadcastInDim S64x1000 ![0, 1] bcast_S1x1000_S64x1000_0_1 (broadcastInDim S1x1000 ![1] bcast_S1000_S1x1000_1 b))

/-- The arg-max of each row of logits. -/
def best (x : FVec F S64x1000 .f32) : IVec S64 32 := fun j =>
  (Host.argReduce reducer_argmax_f32_i32 x (iotaInDim S64x1000 32 1) (constant S_ .f32 0xFF800000#32 : FVec F S_ .f32)
    (constantI S_ 32 0#32) reducesTo_S64x1000_S64_d1 h_S_ j).2

/-- Row `i` of an array of 63 rows. -/
def rowAt {α : Type} (x : S63x64.Idx → α) (i : IVec S_ 32) : S64.Idx → α :=
  shapeCast S64 (Host.dynamicSlice S1x64 x
    (fun k => ((![i, constantI S_ 32 0#32] : Fin 2 → IVec S_ 32) k (Shape.Idx.first h_S_)).toInt) sliceFits_S63x64_S1x64) shapeCasts_S1x64_S64

/-- The token fed to the next trip: the target where the coin is below one half, the arg-max elsewhere. -/
def pick (coin : FVec F S64 .f32) (y greedy : IVec S64 32) : IVec S64 32 :=
  select (cmpf .olt coin (broadcastInDim S64 ![] bcast_S_S64 (constant S_ .f32 0x3F000000#32))) y greedy

/-- One trip's body over any contents: the condition's two operations, then the body's stretches. -/
abbrev trip (V : Valuation τ sig (Elt F)) : Valuation τ sig (Elt F) := afterL bodyI (after condOps V)

/-- The next state of a trip, over the contents it starts from. -/
abbrev nextH (V : Valuation τ sig (Elt F)) : FVec F S64x512 .f32 :=
  cell (gateX (rows (V (Proc.devRef .tc main_v11_2)) (V (Proc.devRef .tc main_v11_11))) (V (Proc.devRef .tc main_v11_3)) (V (Proc.devRef .tc main_v11_4)))
    (gateH (V (Proc.devRef .tc main_v11_10)) (V (Proc.devRef .tc main_v11_5)) (V (Proc.devRef .tc main_v11_6))) (V (Proc.devRef .tc main_v11_10))

/-- The logits of a trip, over the contents it starts from. -/
abbrev nextL (V : Valuation τ sig (Elt F)) : FVec F S64x1000 .f32 :=
  logits (nextH V) (V (Proc.devRef .tc main_v11_7)) (V (Proc.devRef .tc main_v11_8))

/-- An array of 63 matrices with matrix `i` replaced. -/
def putAt (x : FVec F S63x64x1000 .f32) (u : FVec F S64x1000 .f32) (i : IVec S_ 32) : FVec F S63x64x1000 .f32 :=
  Host.dynamicUpdateSlice x (broadcastInDim S1x64x1000 ![1, 2] bcast_S64x1000_S1x64x1000_1_2 u)
    (fun k => ((![i, constantI S_ 32 0#32, constantI S_ 32 0#32] : Fin 3 → IVec S_ 32) k (Shape.Idx.first h_S_)).toInt)
    updateFits_S63x64x1000_S1x64x1000

/-- The contents once the logits are made: the condition's operations, then the body's first four stretches. -/
abbrev mid (V : Valuation τ sig (Elt F)) : Valuation τ sig (Elt F) :=
  afterL [while0Ops0, while0Ops0_1, while0Ops0_2, while0Ops0_3] (after condOps V)

/-- A trip is those and the remaining five stretches. -/
theorem trip_eq (V : Valuation τ sig (Elt F)) :
    trip V = afterL [while0Ops0_4, while0Ops0_5, while0Ops0_6, while0Ops0_7, while0Ops0_8] (mid V) := rfl

theorem mid_logits (V : Valuation τ sig (Elt F)) : mid V (Proc.devRef .tc main_while0b_v56) = nextL V := by
  simp only [mid, afterL_cons, afterL_nil]
  after_reads_simp
  rfl

theorem mid_state (V : Valuation τ sig (Elt F)) : mid V (Proc.devRef .tc main_while0b_v52) = nextH V := by
  simp only [mid, afterL_cons, afterL_nil]
  after_reads_simp
  rfl

/-- The stretch that reads a row of the coins. -/
theorem coin_row (W : Valuation τ sig (Elt F)) : after while0Ops0 W (Proc.devRef .tc main_while0b_v14)
    = rowAt (W (Proc.devRef .tc main_v11_0)) (W (Proc.devRef .tc main_v11_9)) := by
  after_reads_simp [unaryIndexed_result_read, binaryIndexed_result_read, indexContents_tref_cons, indexContents_tref_empty]
  rfl

/-- The stretch that reads a row of the targets. -/
theorem target_row (W : Valuation τ sig (Elt F)) : after while0Ops0_1 W (Proc.devRef .tc main_while0b_v15)
    = rowAt (W (Proc.devRef .tc main_v11_1)) (W (Proc.devRef .tc main_v11_9)) := by
  after_reads_simp [unaryIndexed_result_read, binaryIndexed_result_read, indexContents_tref_cons, indexContents_tref_empty]
  rfl

/-- The stretch that puts the logits in the outputs. -/
theorem put_row (W : Valuation τ sig (Elt F)) : after while0Ops0_7 W (Proc.devRef .tc main_while0b_v61)
    = putAt (W (Proc.devRef .tc main_v11_12)) (W (Proc.devRef .tc main_while0b_v56)) (W (Proc.devRef .tc main_v11_9)) := by
  after_reads_simp [unaryIndexed_result_read, binaryIndexed_result_read, indexContents_tref_cons, indexContents_tref_empty]
  rfl

/-- The stretch that takes the arg-max. -/
theorem best_row (W : Valuation τ sig (Elt F)) : after while0Ops0_4 W (Proc.devRef .tc main_while0b_v57)
    = best (W (Proc.devRef .tc main_while0b_v56)) := by
  after_reads_simp [unaryIndexed_result_read, binaryIndexed_result_read, indexContents_tref_cons, indexContents_tref_empty]
  rfl

/-- A trip leaves the token it picks in the token's buffer. -/
theorem trip_tok (V : Valuation τ sig (Elt F)) : trip V (Proc.devRef .tc main_v11_11)
    = pick (mid V (Proc.devRef .tc main_while0b_v14)) (mid V (Proc.devRef .tc main_while0b_v15)) (best (nextL V)) := by
  rw [trip_eq, ← mid_logits]
  generalize mid V = W
  rw [← best_row]
  simp only [afterL_cons, afterL_nil]
  have e14 : after while0Ops0_4 W (Proc.devRef .tc main_while0b_v14) = W (Proc.devRef .tc main_while0b_v14) :=
    after_of_writes_sub _ _ while0Ops0_4_writes (by decide +kernel)
  have e15 : after while0Ops0_4 W (Proc.devRef .tc main_while0b_v15) = W (Proc.devRef .tc main_while0b_v15) :=
    after_of_writes_sub _ _ while0Ops0_4_writes (by decide +kernel)
  rw [← e14, ← e15]
  generalize after while0Ops0_4 W = X
  after_reads_simp
  rfl

end Cert.ReferenceIdeal.Step

end

end
-- ==== Proof.V.RefRun.lean ====
/- The reference's run: what its loop carries before each trip, by recursion on the trips, and the array
   a run ends with. -/
module

public import proofs.«01_k».proof.Proof.V.RefStep

@[expose] public section

set_option maxRecDepth 16384

noncomputable section

namespace Cert.ReferenceIdeal.Step

open Cert.ReferenceIdeal Cert.ReferenceIdeal.Gen Cert.ReferenceIdeal.Value
open Idealize.ShloMosaic Idealize.ShloMosaic.TcCoe Idealize.ShloMosaic.Tactic
open Idealize.SL Idealize.SL.Sem
open Idealize.ShloMosaic.StableHlo

variable {F : FTy → Type} [FloatOps F]

/-- The buffers that no stretch before the last writes, of those that the loop carries. -/
abbrev carried : List (Ref sig .tc) :=
  [main_v11_0, main_v11_1, main_v11_2, main_v11_3, main_v11_4, main_v11_5, main_v11_6, main_v11_7, main_v11_8, main_v11_9,
    main_v11_10, main_v11_11, main_v11_12, main_v3]

theorem cond_keeps (V : Valuation τ sig (Elt F)) (r : Ref sig .tc) (hr : r ∈ carried) :
    after condOps V (Proc.devRef .tc r) = V (Proc.devRef .tc r) :=
  after_of_writes_sub _ _ condOps_writes (by revert r; decide +kernel)

theorem mid_keeps (V : Valuation τ sig (Elt F)) (r : Ref sig .tc) (hr : r ∈ carried) :
    mid V (Proc.devRef .tc r) = V (Proc.devRef .tc r) := by
  simp only [mid, afterL_cons, afterL_nil]
  rw [after_of_writes_sub _ _ while0Ops0_3_writes (by revert r; decide +kernel),
    after_of_writes_sub _ _ while0Ops0_2_writes (by revert r; decide +kernel),
    after_of_writes_sub _ _ while0Ops0_1_writes (by revert r; decide +kernel),
    after_of_writes_sub _ _ while0Ops0_writes (by revert r; decide +kernel), cond_keeps V r hr]

theorem mid_coin (V : Valuation τ sig (Elt F)) : mid V (Proc.devRef .tc main_while0b_v14)
    = rowAt (V (Proc.devRef .tc main_v11_0)) (V (Proc.devRef .tc main_v11_9)) := by
  simp only [mid, afterL_cons, afterL_nil]
  rw [after_of_writes_sub _ _ while0Ops0_3_writes (by decide +kernel),
    after_of_writes_sub _ _ while0Ops0_2_writes (by decide +kernel),
    after_of_writes_sub _ _ while0Ops0_1_writes (by decide +kernel), coin_row,
    cond_keeps V main_v11_0 (by decide +kernel), cond_keeps V main_v11_9 (by decide +kernel)]

theorem mid_target (V : Valuation τ sig (Elt F)) : mid V (Proc.devRef .tc main_while0b_v15)
    = rowAt (V (Proc.devRef .tc main_v11_1)) (V (Proc.devRef .tc main_v11_9)) := by
  simp only [mid, afterL_cons, afterL_nil]
  rw [after_of_writes_sub _ _ while0Ops0_3_writes (by decide +kernel),
    after_of_writes_sub _ _ while0Ops0_2_writes (by decide +kernel), target_row,
    after_of_writes_sub _ _ while0Ops0_writes (by decide +kernel),
    after_of_writes_sub _ _ while0Ops0_writes (by decide +kernel),
    cond_keeps V main_v11_1 (by decide +kernel), cond_keeps V main_v11_9 (by decide +kernel)]

/-- The stretches from the arg-max's to the pick of the token keep these. -/
theorem late_keeps (W : Valuation τ sig (Elt F)) (r : Ref sig .tc) (hr : r ∈ main_while0b_v52 :: main_while0b_v56 :: carried) :
    after while0Ops0_6 (after while0Ops0_5 (after while0Ops0_4 W)) (Proc.devRef .tc r) = W (Proc.devRef .tc r) := by
  rw [after_of_writes_sub _ _ while0Ops0_6_writes (by revert r; decide +kernel),
    after_of_writes_sub _ _ while0Ops0_5_writes (by revert r; decide +kernel),
    after_of_writes_sub _ _ while0Ops0_4_writes (by revert r; decide +kernel)]

/-- A trip leaves the next state in the state's buffer. -/
theorem trip_h (V : Valuation τ sig (Elt F)) : trip V (Proc.devRef .tc main_v11_10) = nextH V := by
  rw [trip_eq, ← mid_state]
  generalize mid V = W
  simp only [afterL_cons, afterL_nil]
  rw [← late_keeps W main_while0b_v52 (by decide +kernel)]
  generalize after while0Ops0_6 (after while0Ops0_5 (after while0Ops0_4 W)) = X
  have e : after while0Ops0_7 X (Proc.devRef .tc main_while0b_v52) = X (Proc.devRef .tc main_while0b_v52) :=
    after_of_writes_sub _ _ while0Ops0_7_writes (by decide +kernel)
  rw [← e]
  generalize after while0Ops0_7 X = Y
  after_reads_simp
  rfl

/-- A trip leaves its logits in the outputs' buffer, at the counter. -/
theorem trip_out (V : Valuation τ sig (Elt F)) : trip V (Proc.devRef .tc main_v11_12)
    = putAt (V (Proc.devRef .tc main_v11_12)) (nextL V) (V (Proc.devRef .tc main_v11_9)) := by
  rw [trip_eq, ← mid_logits, ← mid_keeps V main_v11_12 (by decide +kernel), ← mid_keeps V main_v11_9 (by decide +kernel)]
  generalize mid V = W
  simp only [afterL_cons, afterL_nil]
  rw [← late_keeps W main_while0b_v56 (by decide +kernel), ← late_keeps W main_v11_12 (by decide +kernel),
    ← late_keeps W main_v11_9 (by decide +kernel)]
  generalize after while0Ops0_6 (after while0Ops0_5 (after while0Ops0_4 W)) = X
  rw [← put_row]
  generalize after while0Ops0_7 X = Y
  after_reads_simp
  rfl

/-- The carried buffers that no trip writes, and the first matrix of the result. -/
abbrev kept : List (Ref sig .tc) :=
  [main_v11_0, main_v11_1, main_v11_2, main_v11_3, main_v11_4, main_v11_5, main_v11_6, main_v11_7, main_v11_8, main_v3]

/-- A trip writes none of them. -/
theorem trip_kept (V : Valuation τ sig (Elt F)) (r : Ref sig .tc) (hr : r ∈ kept) :
    trip V (Proc.devRef .tc r) = V (Proc.devRef .tc r) := by
  rw [trip_eq]
  simp only [afterL_cons, afterL_nil]
  rw [after_of_writes_sub _ _ while0Ops0_8_writes (by revert r; decide +kernel),
    after_of_writes_sub _ _ while0Ops0_7_writes (by revert r; decide +kernel),
    late_keeps _ r (by revert r; decide +kernel)]
  exact mid_keeps V r (by revert r; decide +kernel)

variable (m : (ℓ : Loc nD τ sig) → Buf (Elt F) ℓ)

/-- Before every trip those buffers hold what they held at the loop's entry. -/
theorem atK_kept (c : Dev nD) (r : Ref sig .tc) (hr : r ∈ kept) :
    ∀ k, atK m k c (Proc.devRef .tc r) = entryContents preI m c (Proc.devRef .tc r)
  | 0 => rfl
  | k + 1 => (trip_kept (atK m k c) r hr).trans (atK_kept c r hr k)

/-- The first matrix of the result: the constant with its entries of column one set to zero. -/
def first : FVec F S64x1000 .f32 :=
  Host.scatter scatter_S64x1000_S1_S64_0_1_1_0 (fun _ b => b)
    (broadcastInDim S64x1000 ![] bcast_S_S64x1000 (constant S_ .f32 0x38D1B717#32 : FVec F S_ .f32))
    (broadcastInDim S1 ![] bcast_S_S1 (constantI S_ 32 1#32))
    (broadcastInDim S64 ![] bcast_S_S64 (constant S_ .f32 0x00000000#32 : FVec F S_ .f32))

/-- The table of the coins, times along its columns. -/
def coins : FVec F S64x64 .f32 := fun i => FloatOps.ofBits .f32 (lit0 (S64x64.rowMajor i))

/-- The rows of an array of 64 columns from its second column on. -/
def columns {α : Type} (x : S64x64.Idx → α) : S63x64.Idx → α :=
  extractStridedSlice S63x64 ![1, 0] (transpose S64x64 [1, 0] x transposes_S64x64_S64x64_1_0) slices_S64x64_S63x64_1_0

theorem entry_0 (c : Dev nD) : entryContents preI m c (Proc.devRef .tc main_v11_0) = columns (coins (F := F)) := by
  simp only [entryContents, afterL_cons, afterL_nil]; after_reads_simp; rfl
theorem entry_1 (c : Dev nD) : entryContents preI m c (Proc.devRef .tc main_v11_1)
    = columns (α := BitVec 32) (m ((c.tc : Thread nD τ).loc main_arg0)) := by
  simp only [entryContents, afterL_cons, afterL_nil]; after_reads_simp; rfl
theorem entry_2 (c : Dev nD) : entryContents preI m c (Proc.devRef .tc main_v11_2) = m ((c.tc : Thread nD τ).loc main_arg1) := by
  simp only [entryContents, afterL_cons, afterL_nil]; after_reads_simp; rfl
theorem entry_3 (c : Dev nD) : entryContents preI m c (Proc.devRef .tc main_v11_3) = m ((c.tc : Thread nD τ).loc main_arg2) := by
  simp only [entryContents, afterL_cons, afterL_nil]; after_reads_simp; rfl
theorem entry_4 (c : Dev nD) : entryContents preI m c (Proc.devRef .tc main_v11_4) = m ((c.tc : Thread nD τ).loc main_arg4) := by
  simp only [entryContents, afterL_cons, afterL_nil]; after_reads_simp; rfl
theorem entry_5 (c : Dev nD) : entryContents preI m c (Proc.devRef .tc main_v11_5) = m ((c.tc : Thread nD τ).loc main_arg3) := by
  simp only [entryContents, afterL_cons, afterL_nil]; after_reads_simp; rfl
theorem entry_6 (c : Dev nD) : entryContents preI m c (Proc.devRef .tc main_v11_6) = m ((c.tc : Thread nD τ).loc main_arg5) := by
  simp only [entryContents, afterL_cons, afterL_nil]; after_reads_simp; rfl
theorem entry_7 (c : Dev nD) : entryContents preI m c (Proc.devRef .tc main_v11_7) = m ((c.tc : Thread nD τ).loc main_arg6) := by
  simp only [entryContents, afterL_cons, afterL_nil]; after_reads_simp; rfl
theorem entry_8 (c : Dev nD) : entryContents preI m c (Proc.devRef .tc main_v11_8) = m ((c.tc : Thread nD τ).loc main_arg7) := by
  simp only [entryContents, afterL_cons, afterL_nil]; after_reads_simp; rfl

/-- The state before the first trip: zero everywhere. -/
def h0 : FVec F S64x512 .f32 := broadcastInDim S64x512 ![] bcast_S_S64x512 (constant S_ .f32 0x00000000#32)
/-- The tokens before the first trip. -/
def tok0 : IVec S64 32 := broadcastInDim S64 ![] bcast_S_S64 (constantI S_ 32 1#32)

theorem entry_h (c : Dev nD) : entryContents preI m c (Proc.devRef .tc main_v11_10) = h0 (F := F) := by
  simp only [entryContents, afterL_cons, afterL_nil]; after_reads_simp; rfl
theorem entry_tok (c : Dev nD) : entryContents preI m c (Proc.devRef .tc main_v11_11) = tok0 := by
  simp only [entryContents, afterL_cons, afterL_nil]; after_reads_simp; rfl

theorem entry_first (c : Dev nD) : entryContents preI m c (Proc.devRef .tc main_v3) = first (F := F) := by
  simp only [entryContents, afterL_cons, afterL_nil]; after_reads_simp; rfl

/-- What the operations after the loop make of what the loop leaves: the first matrix, then the loop's outputs. -/
theorem post_v13 (V : Valuation τ sig (Elt F)) : afterL postI (after condOps V) (Proc.devRef .tc main_v13)
    = concatenate S64x64x1000 0 [⟨S1x64x1000, broadcastInDim S1x64x1000 ![1, 2] bcast_S64x1000_S1x64x1000_1_2
          (V (Proc.devRef .tc main_v3) : FVec F S64x1000 .f32)⟩,
        ⟨S63x64x1000, (V (Proc.devRef .tc main_v11_12) : FVec F S63x64x1000 .f32)⟩] concatenates_S1x64x1000_S63x64x1000_S64x64x1000_d0 := by
  rw [← cond_keeps V main_v3 (by decide +kernel), ← cond_keeps V main_v11_12 (by decide +kernel)]
  generalize after condOps V = X
  simp only [afterL_cons, afterL_nil]
  after_reads_simp
  rfl

/-- The array a run ends with: the first matrix, then the loop's outputs. -/
theorem final_v13 (c : Dev nD) (n : ℕ) : finalContents condOps preI bodyI postI n m c (Proc.devRef .tc main_v13)
    = concatenate S64x64x1000 0 [⟨S1x64x1000, broadcastInDim S1x64x1000 ![1, 2] bcast_S64x1000_S1x64x1000_1_2 (first (F := F))⟩,
        ⟨S63x64x1000, (atK m n c (Proc.devRef .tc main_v11_12) : FVec F S63x64x1000 .f32)⟩] concatenates_S1x64x1000_S63x64x1000_S64x64x1000_d0 := by
  rw [← entry_first m c, ← atK_kept m c main_v3 (by decide +kernel) n]
  exact post_v13 (atK m n c)

end Cert.ReferenceIdeal.Step

end

end
-- ==== Proof.V.KernLoop.lean ====
/- What the kernel's loop carries before each trip, by recursion on the trips, and the array that its 64
   stores leave: the first matrix at row zero, the logits of trip `k` at row `k + 1`. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Step

open Cert.KernelIdeal Cert.KernelIdeal.Gen Cert.KernelIdeal.Value
open Idealize.ShloMosaic Idealize.ShloMosaic.TcCoe Idealize.ShloMosaic.Tactic
open Idealize.SL Idealize.SL.Sem

variable {F : FTy → Type} [FloatOps F]

/-- What the loop carries: the state, the tokens, the state half of the gates. -/
abbrev Acc (F : FTy → Type) [FloatOps F] : Type := FVec F S64x512 .f32 × IVec S64x1 32 × FVec F S64x1536 .f32

/-- The targets with every column but that of trip `k` set to zero. -/
def column (y i : IVec S64x64 32) (k : ℕ) : IVec S64x64 32 :=
  muli y (extui 32 (cmpi .eq i (broadcast S64x64 (Scf.iv 1#32 1#32 k))) natLt_1_32)

/-- What trip `k` carries on. -/
def step (v0 : IVec S64x1000 32) (v9 v11 : Vec F S1x1536 .f32) (v13 : Vec F S1x1000 .f32)
    (v15 : Vec F S1000x256 .f32) (v16 : Vec F S256x1536 .f32) (v17 : Vec F S512x2536 .f32) (v19 : Vec F S64x64 .i32) (v21 : IVec S64x64 32)
    (k : ℕ) (a : Acc F) : Acc F :=
  (k0_pay11 v0 (k0_pay2 v9) v15 v16 a.1 a.2.1 a.2.2,
    k0_pay10 (k0_pay16 v0 (k0_pay2 v9) (k0_pay4 v13) v15 v16 (k0_pay5 v17) a.1 a.2.1 a.2.2) (column (k0_pay6 v19) v21 k),
    k0_pay13 v0 (k0_pay2 v9) (k0_pay3 v11) v15 v16 (k0_pay5 v17) a.1 a.2.1 a.2.2)

/-- What a trip stores. -/
def stored (v0 : IVec S64x1000 32) (v9 v11 : Vec F S1x1536 .f32) (v13 : Vec F S1x1000 .f32)
    (v15 : Vec F S1000x256 .f32) (v16 : Vec F S256x1536 .f32) (v17 : Vec F S512x2536 .f32) (v19 : Vec F S64x64 .i32) (v21 : IVec S64x64 32)
    (a : Acc F) : FVec F S1x64x1000 .f32 :=
  k0_pay15 v0 (k0_pay2 v9) (k0_pay4 v13) v15 v16 (k0_pay5 v17) a.1 a.2.1 a.2.2

theorem trip_result (𝒱 : Variants) (c : Dev nD) (bd : Option 𝒱.V) (arg0 : Memref sig .tc .vmem S64x64 .i32) (harg0 : arg0.IsWhole)
    (arg1 : Memref sig .tc .vmem S1000x256 .f32) (harg1 : arg1.IsWhole)
    (arg2 : Memref sig .tc .vmem S256x1536 .f32) (harg2 : arg2.IsWhole)
    (arg3 : Memref sig .tc .vmem S512x2536 .f32) (harg3 : arg3.IsWhole)
    (arg4 : Memref sig .tc .vmem S1x1536 .f32) (harg4 : arg4.IsWhole)
    (arg5 : Memref sig .tc .vmem S1x1536 .f32) (harg5 : arg5.IsWhole)
    (arg6 : Memref sig .tc .vmem S1x1000 .f32) (harg6 : arg6.IsWhole)
    (arg7 : Memref sig .tc .vmem S64x64x1000 .f32) (harg7 : arg7.IsWhole)
    (v0 : IVec S64x1000 32) (v9 v11 : Vec F S1x1536 .f32) (v13 : Vec F S1x1000 .f32)
    (v15 : Vec F S1000x256 .f32) (v16 : Vec F S256x1536 .f32) (v17 : Vec F S512x2536 .f32) (v19 : Vec F S64x64 .i32) (v21 : IVec S64x64 32) (k : Fin k0_t1_loop.trips) (a : Acc F) :
    (trip_k0_t1 (F := F) 𝒱 c bd arg0 harg0 arg1 harg1 arg2 harg2 arg3 harg3 arg4 harg4 arg5 harg5 arg6 harg6 arg7 harg7 v0 v9 v11 v13 v15 v16 v17 v19 v21 k).1 a
      = step v0 v9 v11 v13 v15 v16 v17 v19 v21 k.val a := by
  unfold trip_k0_t1
  rfl

theorem trip_pieces (𝒱 : Variants) (c : Dev nD) (bd : Option 𝒱.V) (arg0 : Memref sig .tc .vmem S64x64 .i32) (harg0 : arg0.IsWhole)
    (arg1 : Memref sig .tc .vmem S1000x256 .f32) (harg1 : arg1.IsWhole)
    (arg2 : Memref sig .tc .vmem S256x1536 .f32) (harg2 : arg2.IsWhole)
    (arg3 : Memref sig .tc .vmem S512x2536 .f32) (harg3 : arg3.IsWhole)
    (arg4 : Memref sig .tc .vmem S1x1536 .f32) (harg4 : arg4.IsWhole)
    (arg5 : Memref sig .tc .vmem S1x1536 .f32) (harg5 : arg5.IsWhole)
    (arg6 : Memref sig .tc .vmem S1x1000 .f32) (harg6 : arg6.IsWhole)
    (arg7 : Memref sig .tc .vmem S64x64x1000 .f32) (harg7 : arg7.IsWhole)
    (v0 : IVec S64x1000 32) (v9 v11 : Vec F S1x1536 .f32) (v13 : Vec F S1x1000 .f32)
    (v15 : Vec F S1000x256 .f32) (v16 : Vec F S256x1536 .f32) (v17 : Vec F S512x2536 .f32) (v19 : Vec F S64x64 .i32) (v21 : IVec S64x64 32) (k : Fin k0_t1_loop.trips) (a : Acc F) :
    (trip_k0_t1 (F := F) 𝒱 c bd arg0 harg0 arg1 harg1 arg2 harg2 arg3 harg3 arg4 harg4 arg5 harg5 arg6 harg6 arg7 harg7 v0 v9 v11 v13 v15 v16 v17 v19 v21 k).2.1 a
      = [(⟨Rect.unit (s := S64x64x1000) (k0_off1 k) S1x64x1000.size (k0_off1_inb k), stored v0 v9 v11 v13 v15 v16 v17 v19 v21 a⟩ :
          View.Piece (Elt F) S64x64x1000 .f32)] := by
  unfold trip_k0_t1
  rfl

/-- What is carried before trip `k`. -/
def carry (v0 : IVec S64x1000 32) (v9 v11 : Vec F S1x1536 .f32) (v13 : Vec F S1x1000 .f32)
    (v15 : Vec F S1000x256 .f32) (v16 : Vec F S256x1536 .f32) (v17 : Vec F S512x2536 .f32) (v19 : Vec F S64x64 .i32) (v21 : IVec S64x64 32)
    (a : Acc F) : ℕ → Acc F
  | 0 => a
  | k + 1 => step v0 v9 v11 v13 v15 v16 v17 v19 v21 k (carry v0 v9 v11 v13 v15 v16 v17 v19 v21 a k)

/-- The loop's state holds what is carried, and its stores read back: row `j + 1` is what trip `j` stores and
    row zero is untouched. -/
theorem state_eq (𝒱 : Variants) (c : Dev nD) (bd : Option 𝒱.V) (arg0 : Memref sig .tc .vmem S64x64 .i32) (harg0 : arg0.IsWhole)
    (arg1 : Memref sig .tc .vmem S1000x256 .f32) (harg1 : arg1.IsWhole)
    (arg2 : Memref sig .tc .vmem S256x1536 .f32) (harg2 : arg2.IsWhole)
    (arg3 : Memref sig .tc .vmem S512x2536 .f32) (harg3 : arg3.IsWhole)
    (arg4 : Memref sig .tc .vmem S1x1536 .f32) (harg4 : arg4.IsWhole)
    (arg5 : Memref sig .tc .vmem S1x1536 .f32) (harg5 : arg5.IsWhole)
    (arg6 : Memref sig .tc .vmem S1x1000 .f32) (harg6 : arg6.IsWhole)
    (arg7 : Memref sig .tc .vmem S64x64x1000 .f32) (harg7 : arg7.IsWhole)
    (v0 : IVec S64x1000 32) (v9 v11 : Vec F S1x1536 .f32) (v13 : Vec F S1x1000 .f32)
    (v15 : Vec F S1000x256 .f32) (v16 : Vec F S256x1536 .f32) (v17 : Vec F S512x2536 .f32) (v19 : Vec F S64x64 .i32) (v21 : IVec S64x64 32) (a : Acc F)
    (P : List (View.Piece (Elt F) S64x64x1000 .f32)) : ∀ k : ℕ, k ≤ k0_t1_loop.trips →
    (st_k0_t1 (F := F) 𝒱 c bd arg0 harg0 arg1 harg1 arg2 harg2 arg3 harg3 arg4 harg4 arg5 harg5 arg6 harg6 arg7 harg7 v0 v9 v11 v13 v15 v16 v17 v19 v21 a k).1 = carry v0 v9 v11 v13 v15 v16 v17 v19 v21 a k
    ∧ ∀ (i : Fin 64) (b : Fin 64) (v : Fin 1000),
      View.canon ((st_k0_t1 (F := F) 𝒱 c bd arg0 harg0 arg1 harg1 arg2 harg2 arg3 harg3 arg4 harg4 arg5 harg5 arg6 harg6 arg7 harg7 v0 v9 v11 v13 v15 v16 v17 v19 v21 a k).2 ++ P) (ix3 i b v)
        = if 0 < i.val ∧ i.val ≤ k then stored v0 v9 v11 v13 v15 v16 v17 v19 v21 (carry v0 v9 v11 v13 v15 v16 v17 v19 v21 a (i.val - 1)) (ix3 0 b v)
          else View.canon P (ix3 i b v)
  | 0, _ => ⟨rfl, fun i b v => by
      rw [if_neg (by omega)]
      exact congrArg (fun L => View.canon L (ix3 i b v)) (List.nil_append P)⟩
  | k + 1, hk => by
    obtain ⟨h1, h2⟩ := state_eq 𝒱 c bd arg0 harg0 arg1 harg1 arg2 harg2 arg3 harg3 arg4 harg4 arg5 harg5 arg6 harg6 arg7 harg7 v0 v9 v11 v13 v15 v16 v17 v19 v21 a P k (by omega)
    have e := st_k0_t1_succ (F := F) 𝒱 c bd arg0 harg0 arg1 harg1 arg2 harg2 arg3 harg3 arg4 harg4 arg5 harg5 arg6 harg6 arg7 harg7 v0 v9 v11 v13 v15 v16 v17 v19 v21 a ⟨k, hk⟩
    simp only [tripR_k0_t1, tripL_k0_t1] at e
    rw [trip_result, trip_pieces] at e
    dsimp only at e
    rw [h1] at e
    rw [e]
    refine ⟨rfl, fun i b v => ?_⟩
    dsimp only
    rw [List.append_assoc, List.singleton_append]
    have ho : k0_off1 ⟨k, hk⟩ = ![k + 1, 0, 0] := k0_off1_eq ⟨k, hk⟩
    by_cases hi : i.val = k + 1
    · have he : (Rect.unit (s := S64x64x1000) (k0_off1 ⟨k, hk⟩) S1x64x1000.size (k0_off1_inb ⟨k, hk⟩)).emb (ix3 0 b v) = ix3 i b v := by
        funext x; apply Fin.ext
        fin_cases x
        · show k0_off1 ⟨k, hk⟩ 0 + 1 * 0 = i.val; rw [ho, hi]; rfl
        · show k0_off1 ⟨k, hk⟩ 1 + 1 * b.val = b.val; rw [ho]; show 0 + 1 * b.val = b.val; omega
        · show k0_off1 ⟨k, hk⟩ 2 + 1 * v.val = v.val; rw [ho]; show 0 + 1 * v.val = v.val; omega
      rw [if_pos (by omega), ← he, View.canon_cons_emb, hi]
      rfl
    · rw [View.canon_cons_of_not_mem, h2 i b v]
      · by_cases h0 : 0 < i.val ∧ i.val ≤ k
        · rw [if_pos h0, if_pos (by omega)]
        · rw [if_neg h0, if_neg (by omega)]
      · intro hm
        obtain ⟨j, hj, hh⟩ := (LoadRect.mem_set _).1 hm 0
        have hj' : j < 1 := hj
        have hh' : i.val = k0_off1 ⟨k, hk⟩ 0 + 1 * j := hh
        rw [ho] at hh'
        have hh'' : i.val = (k + 1) + 1 * j := hh'
        omega

/-- What the kernel's body leaves, over the inputs that it reads. -/
theorem body_out (c : Dev nD) (arg0 : Memref sig .tc .vmem S64x64 .i32) (harg0 : arg0.IsWhole)
    (arg1 : Memref sig .tc .vmem S1000x256 .f32) (harg1 : arg1.IsWhole)
    (arg2 : Memref sig .tc .vmem S256x1536 .f32) (harg2 : arg2.IsWhole)
    (arg3 : Memref sig .tc .vmem S512x2536 .f32) (harg3 : arg3.IsWhole)
    (arg4 : Memref sig .tc .vmem S1x1536 .f32) (harg4 : arg4.IsWhole)
    (arg5 : Memref sig .tc .vmem S1x1536 .f32) (harg5 : arg5.IsWhole)
    (arg6 : Memref sig .tc .vmem S1x1000 .f32) (harg6 : arg6.IsWhole)
    (arg7 : Memref sig .tc .vmem S64x64x1000 .f32) (harg7 : arg7.IsWhole)
    (x0 : Vec F S64x64 .i32) (x1 : Vec F S1000x256 .f32) (x2 : Vec F S256x1536 .f32) (x3 : Vec F S512x2536 .f32)
    (x4 x5 : Vec F S1x1536 .f32) (x6 : Vec F S1x1000 .f32) (i : Fin 64) (b : Fin 64) (v : Fin 1000) :
    out0_A_7 c arg0 harg0 arg1 harg1 arg2 harg2 arg3 harg3 arg4 harg4 arg5 harg5 arg6 harg6 arg7 harg7 x0 x1 x2 x3 x4 x5 x6 (ix3 i b v)
      = if 0 < i.val then stored (iota .tc S64x1000 32 [1] iota_S64x1000_d1_w32) x4 x5 x6 x1 x2 x3 x0 (iota .tc S64x64 32 [1] iota_S64x64_d1_w32)
            (carry (iota .tc S64x1000 32 [1] iota_S64x1000_d1_w32) x4 x5 x6 x1 x2 x3 x0 (iota .tc S64x64 32 [1] iota_S64x64_d1_w32)
              (k0_pay7 (F := F), k0_pay8, k0_pay9 x5) (i.val - 1)) (ix3 0 b v)
        else k0_pay1 (F := F) (ix3 0 b v) := by
  frame_out
  rw [(state_eq (F := F) _ c _ arg0 harg0 arg1 harg1 arg2 harg2 arg3 harg3 arg4 harg4 arg5 harg5 arg6 harg6 arg7 harg7 _ _ _ _ _ _ _ _ _ _ _ k0_t1_loop.trips le_rfl).2 i b v]
  have ht : k0_t1_loop.trips = 63 := by decide +kernel
  rw [ht]
  by_cases hi : 0 < i.val
  · rw [if_pos hi, if_pos ⟨hi, by omega⟩]
  · rw [if_neg hi, if_neg (fun h => hi h.1)]
    have he : (Rect.unit (s := S64x64x1000) ![0, 0, 0] S1x64x1000.size inb_S64x64x1000_S1x64x1000_0_0_0).emb (ix3 0 b v) = ix3 i b v := by
      funext x; apply Fin.ext
      fin_cases x
      · show 0 + 1 * 0 = i.val; omega
      · show 0 + 1 * b.val = b.val; omega
      · show 0 + 1 * v.val = v.val; omega
    rw [← he]
    exact View.canon_cons_emb _ _ _ _

variable (m : (ℓ : Loc nD τ sig) → Buf (Elt F) ℓ)

/-- The targets the kernel reads: the given ones where the coin is below one half, -1 elsewhere. -/
def forced (y : IVec S64x64 32) : IVec S64x64 32 :=
  select (cmpf .olt (fun i => FloatOps.ofBits .f32 (lit0 (S64x64.rowMajor i)) : FVec F S64x64 .f32)
    (broadcastInDim S64x64 ![] bcast_S_S64x64 (constant S_ .f32 0x3F000000#32 : FVec F S_ .f32))) y
    (broadcastInDim S64x64 ![] bcast_S_S64x64 (constantI S_ 32 4294967295#32))

theorem idx_0 (t : Fin cfg0.N) (a : Fin 2) : win0_0.index t a = 0 := by
  revert t a; decide +kernel
theorem in_0 (c : Dev nD) : iblk m c 0 t0_0 = forced (F := F) (m ((c.tc : Thread nD τ).loc main_arg0)) := by
  have e : V m c main_v2 = forced (F := F) (m ((c.tc : Thread nD τ).loc main_arg0)) := by
    entry_read
    rfl
  rw [← e]; funext y; blk_ext [iblk, idx_0]

theorem idx_1 (t : Fin cfg0.N) (a : Fin 2) : win0_1.index t a = 0 := by
  revert t a; decide +kernel
theorem in_1 (c : Dev nD) : iblk m c 1 t0_0 = m ((c.tc : Thread nD τ).loc main_arg1) := by
  have e : V m c main_arg1 = m ((c.tc : Thread nD τ).loc main_arg1) := by
    exact V_main_arg1 m c
  rw [← e]; funext y; blk_ext [iblk, idx_1]

theorem idx_2 (t : Fin cfg0.N) (a : Fin 2) : win0_2.index t a = 0 := by
  revert t a; decide +kernel
theorem in_2 (c : Dev nD) : iblk m c 2 t0_0 = m ((c.tc : Thread nD τ).loc main_arg2) := by
  have e : V m c main_arg2 = m ((c.tc : Thread nD τ).loc main_arg2) := by
    exact V_main_arg2 m c
  rw [← e]; funext y; blk_ext [iblk, idx_2]

theorem idx_3 (t : Fin cfg0.N) (a : Fin 2) : win0_3.index t a = 0 := by
  revert t a; decide +kernel
theorem in_3 (c : Dev nD) : iblk m c 3 t0_0 = (concatenate S512x2536 1 [⟨S512x1536, (m ((c.tc : Thread nD τ).loc main_arg3) : FVec F S512x1536 .f32)⟩,
        ⟨S512x1000, (m ((c.tc : Thread nD τ).loc main_arg6) : FVec F S512x1000 .f32)⟩] concatenates_S512x1536_S512x1000_S512x2536_d1) := by
  have e : V m c main_v3 = (concatenate S512x2536 1 [⟨S512x1536, (m ((c.tc : Thread nD τ).loc main_arg3) : FVec F S512x1536 .f32)⟩,
        ⟨S512x1000, (m ((c.tc : Thread nD τ).loc main_arg6) : FVec F S512x1000 .f32)⟩] concatenates_S512x1536_S512x1000_S512x2536_d1) := by
    entry_read
    rfl
  rw [← e]; funext y; blk_ext [iblk, idx_3]

theorem idx_4 (t : Fin cfg0.N) (a : Fin 2) : win0_4.index t a = 0 := by
  revert t a; decide +kernel
theorem in_4 (c : Dev nD) : iblk m c 4 t0_0 = (shapeCast S1x1536 (m ((c.tc : Thread nD τ).loc main_arg4) : FVec F S1536 .f32) shapeCasts_S1536_S1x1536) := by
  have e : V m c main_v4 = (shapeCast S1x1536 (m ((c.tc : Thread nD τ).loc main_arg4) : FVec F S1536 .f32) shapeCasts_S1536_S1x1536) := by
    entry_read
    rfl
  rw [← e]; funext y; blk_ext [iblk, idx_4]

theorem idx_5 (t : Fin cfg0.N) (a : Fin 2) : win0_5.index t a = 0 := by
  revert t a; decide +kernel
theorem in_5 (c : Dev nD) : iblk m c 5 t0_0 = (shapeCast S1x1536 (m ((c.tc : Thread nD τ).loc main_arg5) : FVec F S1536 .f32) shapeCasts_S1536_S1x1536) := by
  have e : V m c main_v5 = (shapeCast S1x1536 (m ((c.tc : Thread nD τ).loc main_arg5) : FVec F S1536 .f32) shapeCasts_S1536_S1x1536) := by
    entry_read
    rfl
  rw [← e]; funext y; blk_ext [iblk, idx_5]

theorem idx_6 (t : Fin cfg0.N) (a : Fin 2) : win0_6.index t a = 0 := by
  revert t a; decide +kernel
theorem in_6 (c : Dev nD) : iblk m c 6 t0_0 = (shapeCast S1x1000 (m ((c.tc : Thread nD τ).loc main_arg7) : FVec F S1000 .f32) shapeCasts_S1000_S1x1000) := by
  have e : V m c main_v6 = (shapeCast S1x1000 (m ((c.tc : Thread nD τ).loc main_arg7) : FVec F S1000 .f32) shapeCasts_S1000_S1x1000) := by
    entry_read
    rfl
  rw [← e]; funext y; blk_ext [iblk, idx_6]

/-- What the kernel carries before trip `k`, over the arrays it reads. -/
def carried {F : FTy → Type} [FloatOps F] (x0 : Vec F S64x64 .i32) (x1 : Vec F S1000x256 .f32) (x2 : Vec F S256x1536 .f32) (x3 : Vec F S512x2536 .f32)
    (x4 x5 : Vec F S1x1536 .f32) (x6 : Vec F S1x1000 .f32) (k : ℕ) : Acc F :=
  carry (iota .tc S64x1000 32 [1] iota_S64x1000_d1_w32) x4 x5 x6 x1 x2 x3 x0 (iota .tc S64x64 32 [1] iota_S64x64_d1_w32)
    (k0_pay7 (F := F), k0_pay8, k0_pay9 x5) k

/-- What the kernel leaves, over the arrays it reads. -/
def left {F : FTy → Type} [FloatOps F] (x0 : Vec F S64x64 .i32) (x1 : Vec F S1000x256 .f32) (x2 : Vec F S256x1536 .f32) (x3 : Vec F S512x2536 .f32)
    (x4 x5 : Vec F S1x1536 .f32) (x6 : Vec F S1x1000 .f32) (j : S64x64x1000.Idx) : F .f32 :=
  if 0 < (j 0).val then stored (iota .tc S64x1000 32 [1] iota_S64x1000_d1_w32) x4 x5 x6 x1 x2 x3 x0 (iota .tc S64x64 32 [1] iota_S64x64_d1_w32)
      (carried x0 x1 x2 x3 x4 x5 x6 ((j 0).val - 1)) (ix3 0 (j 1) (j 2))
    else k0_pay1 (F := F) (ix3 0 (j 1) (j 2))

/-- The array a run ends with. -/
theorem array_eq (c : Dev nD) : (dats m 0 c).arrAt 7 cfg0.N
    = left (forced (F := F) (m ((c.tc : Thread nD τ).loc main_arg0))) (m ((c.tc : Thread nD τ).loc main_arg1)) (m ((c.tc : Thread nD τ).loc main_arg2)) (concatenate S512x2536 1 [⟨S512x1536, (m ((c.tc : Thread nD τ).loc main_arg3) : FVec F S512x1536 .f32)⟩,
        ⟨S512x1000, (m ((c.tc : Thread nD τ).loc main_arg6) : FVec F S512x1000 .f32)⟩] concatenates_S512x1536_S512x1000_S512x2536_d1)
        (shapeCast S1x1536 (m ((c.tc : Thread nD τ).loc main_arg4) : FVec F S1536 .f32) shapeCasts_S1536_S1x1536) (shapeCast S1x1536 (m ((c.tc : Thread nD τ).loc main_arg5) : FVec F S1536 .f32) shapeCasts_S1536_S1x1536) (shapeCast S1x1000 (m ((c.tc : Thread nD τ).loc main_arg7) : FVec F S1000 .f32) shapeCasts_S1000_S1x1000) := by
  rw [← in_0 m c, ← in_1 m c, ← in_2 m c, ← in_3 m c, ← in_4 m c, ← in_5 m c, ← in_6 m c]
  refine (dats m 0 c).arrAt_eq_of_after_last 7 t0_0 (by decide +kernel) _ fun j => ?_
  blk_simp
  rw [after0_7]
  unfold outsAt0
  have h : ∀ (y : S64x64x1000.Idx), out0_A_7 c (ms0_0 t0_0) (hs0_0 t0_0) (ms0_1 t0_0) (hs0_1 t0_0) (ms0_2 t0_0) (hs0_2 t0_0)
      (ms0_3 t0_0) (hs0_3 t0_0) (ms0_4 t0_0) (hs0_4 t0_0) (ms0_5 t0_0) (hs0_5 t0_0) (ms0_6 t0_0) (hs0_6 t0_0) (ms0_7 t0_0) (hs0_7 t0_0)
      (iblk m c 0 t0_0) (iblk m c 1 t0_0) (iblk m c 2 t0_0) (iblk m c 3 t0_0) (iblk m c 4 t0_0) (iblk m c 5 t0_0) (iblk m c 6 t0_0) y
      = left (iblk m c 0 t0_0) (iblk m c 1 t0_0) (iblk m c 2 t0_0) (iblk m c 3 t0_0) (iblk m c 4 t0_0) (iblk m c 5 t0_0) (iblk m c 6 t0_0) y := fun y => by
    obtain ⟨i, b, v, rfl⟩ : ∃ (i : Fin 64) (b : Fin 64) (v : Fin 1000), y = ix3 i b v := ⟨y 0, y 1, y 2, eq_ix3 y⟩
    exact body_out c _ _ _ _ _ _ _ _ _ _ _ _ _ _ _ _ _ _ _ _ _ _ _ i b v
  exact h j

end Cert.KernelIdeal.Step

end

end
-- ==== Proof.V.Gates.lean ====
/- The kernel's arithmetic of one trip at the extended reals equals the reference's: a product with rows
   that are one at one place and zero elsewhere selects rows of the table, the product with the joined
   weights holds both products, and the gates of the two sides agree. -/
module

public import proofs.«01_k».proof.Proof.V.RefRun
public import proofs.«01_k».proof.Proof.V.KernLoop
public import Idealize.ShloMosaic.Lib.Routing.Ops

@[expose] public section

set_option maxRecDepth 16384

noncomputable section

namespace Cert.Same

open Cert.KernelIdeal Cert.KernelIdeal.Gen
open Cert.ReferenceIdeal.Step (rowOf rowOk rows gateX gateH sigm gateR gateZ gateN cell logits ones)
open Idealize.ShloMosaic Idealize.ShloMosaic.TcCoe Idealize.ShloMosaic.Tactic

/-- The kernel's tokens are the reference's, and each names a row of the table. -/
def Tok (tk : IVec S64x1 32) (tok : IVec S64 32) : Prop :=
  ∀ b : Fin 64, tk (ix2 b 0) = tok (ix1 b) ∧ (tok (ix1 b)).toNat < 1000

/-- The numbers of the columns. -/
abbrev cols : IVec S64x1000 32 := iota .tc S64x1000 32 [1] iota_S64x1000_d1_w32

theorem rowOf_apply (tok : IVec S64 32) (b : Fin 64) (h : (tok (ix1 b)).toNat < 1000) : rowOf tok (ix2 b 0) = tok (ix1 b) := by
  pointwise [rowOf]
  generalize tok (ix1 b) = x at *
  have hx : ¬ (x.slt 0#32) := by rw [BitVec.slt_zero_eq_msb]; simp [BitVec.msb_eq_decide]; omega
  simp [IntOp.cmpi, hx, Scalar.select]

theorem rowOk_apply (tok : IVec S64 32) (b : Fin 64) (h : (tok (ix1 b)).toNat < 1000) : rowOk tok (ix1 b) = 1#1 := by
  pointwise [rowOk]
  have hu : (Finset.univ : Finset (Fin 1)) = {0} := rfl
  rw [hu, Finset.fold_singleton, rowOf_apply tok b h]
  generalize tok (ix1 b) = x at *
  have h1 : (0#32).sle x = true := by rw [BitVec.sle_eq_decide]; simp [BitVec.toInt_eq_toNat_of_lt (x := x) (by omega)]
  have h2 : x.sle 999#32 = true := by
    rw [BitVec.sle_eq_decide]; simp [BitVec.toInt_eq_toNat_of_lt (x := x) (by omega)]; omega
  simp [IntOp.cmpi, h1, h2, IntOp.andi]

theorem rows_apply (emb : FVec Ideal S1000x256 .f32) (tok : IVec S64 32) (b : Fin 64) (e : Fin 256)
    (h : (tok (ix1 b)).toNat < 1000) : rows emb tok (ix2 b e) = emb (ix2 ⟨(tok (ix1 b)).toNat, h⟩ e) := by
  have hg : Host.gather Cert.ReferenceIdeal.gather_S1000x256_S64x1_S64x256_1_0_n_n_0_1_1256 emb (rowOf tok) (ix2 b e)
      = emb (ix2 ⟨(tok (ix1 b)).toNat, h⟩ e) := by
    have := Routing.gather_row Cert.ReferenceIdeal.gather_S1000x256_S64x1_S64x256_1_0_n_n_0_1_1256 rfl rfl rfl rfl rfl emb (rowOf tok) b e
      ⟨(tok (ix1 b)).toNat, h⟩ (by
        show rowOf tok (ix2 b 0) = _
        rw [rowOf_apply tok b h]; simp) (by norm_num)
    exact this
  pointwise [rows]
  rw [rowOk_apply tok b h, hg]
  rfl

/-- The product with the one-hot rows of the tokens. -/
theorem onehot (emb : FVec Ideal S1000x256 .f32) (tk : IVec S64x1 32) (tok : IVec S64 32) (ht : Tok tk tok) :
    matmul dot_S64x1000_S1000x256_S64x256_1_0_0_1_n_n none
      (sitofp .f32 (extui 32 (cmpi .eq (broadcastTo S64x1000 tk broadcasts_S64x1_S64x1000) cols) natLt_1_32)) emb
      (constant S64x256 .f32 0x00000000#32 : FVec Ideal S64x256 .f32) = rows emb tok := by
  funext j
  obtain ⟨b, e, rfl⟩ : ∃ (b : Fin 64) (e : Fin 256), j = ix2 b e := ⟨j 0, j 1, eq_ix2 j⟩
  obtain ⟨h1, h2⟩ := ht b
  rw [rows_apply emb tok b e h2]
  pointwise
  rw [h1, Finset.sum_eq_single (⟨(tok (ix1 b)).toNat, h2⟩ : Fin 1000)]
  · have h1 : FloatOps.sitofp (F := Ideal) .f32 (1#32) = (1 : EReal) := by
      show ((((1#32 : BitVec 32).toInt : ℤ) : ℝ) : EReal) = 1
      simp
    simp [IntOp.cmpi, h1]
  · intro k _ hk
    have : tok (ix1 b) ≠ BitVec.ofNat 32 k.val := fun e => hk (Fin.ext (by
      show k.val = (tok (ix1 b)).toNat
      rw [e, BitVec.toNat_ofNat]; have := k.isLt; omega))
    have h0 : FloatOps.sitofp (F := Ideal) .f32 (0#32) = (0 : EReal) := by
      show ((((0#32 : BitVec 32).toInt : ℤ) : ℝ) : EReal) = 0
      simp
    simp [IntOp.cmpi, beq_eq_false_iff_ne.2 this, h0]
  · intro hk; exact absurd (Finset.mem_univ _) hk

/-- The input half of the gates. -/
theorem gateX_eq (x : FVec Ideal S64x256 .f32) (W : FVec Ideal S256x1536 .f32) (b : FVec Ideal S1536 .f32) :
    addf (matmul dot_S64x256_S256x1536_S64x1536_1_0_0_1_n_n none x W (constant S64x1536 .f32 0x00000000#32 : FVec Ideal S64x1536 .f32))
      (broadcastTo S64x1536 (k0_pay2 (shapeCast S1x1536 b shapeCasts_S1536_S1x1536)) broadcasts_S1x1536_S64x1536) = gateX x W b := by
  funext j
  pointwise [gateX, k0_pay2]

/-- The logistic function as the reference spells it. -/
theorem sigm_apply (x : FVec Ideal S64x512 .f32) (j : S64x512.Idx) : sigm x j = Ideal.logistic (x j) := by
  pointwise [sigm, ones]
  rfl

/-- The next state. -/
theorem state_eq (emb : FVec Ideal S1000x256 .f32) (W : FVec Ideal S256x1536 .f32) (bi : FVec Ideal S1536 .f32)
    (h : FVec Ideal S64x512 .f32) (tk : IVec S64x1 32) (tok : IVec S64 32) (gh : FVec Ideal S64x1536 .f32) (ht : Tok tk tok) :
    k0_pay11 cols (k0_pay2 (shapeCast S1x1536 bi shapeCasts_S1536_S1x1536)) emb W h tk gh = cell (gateX (rows emb tok) W bi) gh h := by
  unfold k0_pay11
  dsimp only
  rw [onehot emb tk tok ht, gateX_eq]
  generalize gateX (rows emb tok) W bi = gi
  funext j
  have er := sigm_apply (addf (extractStridedSlice S64x512 ![0, 0] gi Cert.ReferenceIdeal.Gen.slices_S64x1536_S64x512_0_0)
    (extractStridedSlice S64x512 ![0, 0] gh Cert.ReferenceIdeal.Gen.slices_S64x1536_S64x512_0_0)) j
  have ez := sigm_apply (addf (extractStridedSlice S64x512 ![0, 512] gi Cert.ReferenceIdeal.Gen.slices_S64x1536_S64x512_0_512)
    (extractStridedSlice S64x512 ![0, 512] gh Cert.ReferenceIdeal.Gen.slices_S64x1536_S64x512_0_512)) j
  pointwise at er ez
  pointwise [cell, gateR, gateZ, gateN, ones, er, ez]

/-- The joined weights. -/
abbrev joined (W : FVec Ideal S512x1536 .f32) (Wo : FVec Ideal S512x1000 .f32) : FVec Ideal S512x2536 .f32 :=
  concatenate S512x2536 1 [⟨S512x1536, W⟩, ⟨S512x1000, Wo⟩] concatenates_S512x1536_S512x1000_S512x2536_d1

/-- The state half of the next gates. -/
theorem gateH_eq (h : FVec Ideal S64x512 .f32) (W : FVec Ideal S512x1536 .f32) (Wo : FVec Ideal S512x1000 .f32) (b : FVec Ideal S1536 .f32) :
    addf (extractStridedSlice S64x1536 ![0, 0] (matmul dot_S64x512_S512x2536_S64x2536_1_0_0_1_n_n none h (k0_pay5 (joined W Wo))
        (constant S64x2536 .f32 0x00000000#32 : FVec Ideal S64x2536 .f32)) slices_S64x2536_o0_0_S64x1536)
      (broadcastTo S64x1536 (k0_pay3 (shapeCast S1x1536 b shapeCasts_S1536_S1x1536)) broadcasts_S1x1536_S64x1536) = gateH h W b := by
  funext j
  pointwise [gateH, k0_pay3, k0_pay5]

/-- The logits. -/
theorem logits_eq (h : FVec Ideal S64x512 .f32) (W : FVec Ideal S512x1536 .f32) (Wo : FVec Ideal S512x1000 .f32) (b : FVec Ideal S1000 .f32) :
    addf (extractStridedSlice S64x1000 ![0, 1536] (matmul dot_S64x512_S512x2536_S64x2536_1_0_0_1_n_n none h (k0_pay5 (joined W Wo))
        (constant S64x2536 .f32 0x00000000#32 : FVec Ideal S64x2536 .f32)) slices_S64x2536_o0_1536_S64x1000)
      (broadcastTo S64x1000 (k0_pay4 (shapeCast S1x1000 b shapeCasts_S1000_S1x1000)) broadcasts_S1x1000_S64x1000) = logits h Wo b := by
  funext j
  pointwise [logits, k0_pay4, k0_pay5]

/-- The state half of the first gates: the state is zero. -/
theorem gateH_zero (W : FVec Ideal S512x1536 .f32) (b : FVec Ideal S1536 .f32) :
    k0_pay9 (shapeCast S1x1536 b shapeCasts_S1536_S1x1536) = gateH (Cert.ReferenceIdeal.Step.h0 (F := Ideal)) W b := by
  funext j
  pointwise [gateH, k0_pay9, k0_pay3, Cert.ReferenceIdeal.Step.h0]
  simp

/-- The first state. -/
theorem state_zero : k0_pay7 (F := Ideal) = Cert.ReferenceIdeal.Step.h0 (F := Ideal) := by
  funext j
  pointwise [k0_pay7, Cert.ReferenceIdeal.Step.h0]

/-- The first tokens. -/
theorem tok_zero : Tok k0_pay8 Cert.ReferenceIdeal.Step.tok0 := by
  intro b
  pointwise [k0_pay8, Cert.ReferenceIdeal.Step.tok0]

end Cert.Same

end

end
-- ==== Proof.V.Best.lean ====
/- The arg-max of a row at the extended reals: the reference's fold of pairs and the kernel's least column
   that attains the maximum are both the first column whose entry is the greatest. -/
module

public import proofs.«01_k».proof.Proof.V.Gates

@[expose] public section

set_option maxRecDepth 16384

noncomputable section

namespace Cert.Same

open Cert.KernelIdeal Cert.KernelIdeal.Gen
open Cert.ReferenceIdeal.Step (best)
open Idealize.ShloMosaic Idealize.ShloMosaic.TcCoe Idealize.ShloMosaic.Tactic

/-- `p` is the first place where `f` is greatest. -/
def FirstMax (f : Fin 1000 → EReal) (p : Fin 1000) : Prop := (∀ j, f j ≤ f p) ∧ ∀ j, f j = f p → p ≤ j

theorem firstMax_exists (f : Fin 1000 → EReal) : ∃ p, FirstMax f p := by
  obtain ⟨q, -, hq⟩ := Finset.exists_max_image (Finset.univ : Finset (Fin 1000)) f ⟨0, Finset.mem_univ _⟩
  obtain ⟨p, hp, hm⟩ := Finset.exists_min_image (Finset.univ.filter fun j => f j = f q) id ⟨q, by simp⟩
  have hp' : f p = f q := (Finset.mem_filter.1 hp).2
  exact ⟨p, fun j => hp' ▸ hq j (Finset.mem_univ j), fun j hj => hm j (by simp [hj, hp'])⟩

/-- What the least of a family of signed words is: the start or one of them, and at most each. -/
theorem fold_min (s : Finset (Fin 1000)) (a : BitVec 32) (g : Fin 1000 → BitVec 32) :
    (s.fold IntOp.minsi a g = a ∨ ∃ k ∈ s, s.fold IntOp.minsi a g = g k) ∧ (s.fold IntOp.minsi a g).toInt ≤ a.toInt
      ∧ ∀ k ∈ s, (s.fold IntOp.minsi a g).toInt ≤ (g k).toInt := by
  induction s using Finset.induction_on with
  | empty => simp
  | insert k s hk ih =>
    rw [Finset.fold_insert hk]
    generalize s.fold IntOp.minsi a g = r at ih ⊢
    obtain ⟨h1, h2, h3⟩ := ih
    have hm : (IntOp.minsi (g k) r = g k ∧ (g k).toInt ≤ r.toInt) ∨ (IntOp.minsi (g k) r = r ∧ r.toInt ≤ (g k).toInt) := by
      unfold IntOp.minsi
      simp only [BitVec.sle_eq_decide, BitVec.slt_eq_decide]
      split <;> simp_all <;> omega
    rcases hm with ⟨e, hl⟩ | ⟨e, hl⟩ <;> rw [e]
    · refine ⟨.inr ⟨k, by simp, rfl⟩, by omega, fun j hj => ?_⟩
      rcases Finset.mem_insert.1 hj with rfl | hj
      · exact le_refl _
      · have := h3 j hj; omega
    · refine ⟨?_, by omega, fun j hj => ?_⟩
      · rcases h1 with h1 | ⟨j, hj, h1⟩
        · exact .inl h1
        · exact .inr ⟨j, Finset.mem_insert_of_mem hj, h1⟩
      · rcases Finset.mem_insert.1 hj with rfl | hj
        · exact hl
        · exact h3 j hj

theorem toInt_col (k : Fin 1000) : (BitVec.ofNat 32 k.val).toInt = k.val := by
  have := k.isLt
  rw [BitVec.toInt_eq_toNat_of_lt] <;> rw [BitVec.toNat_ofNat] <;> omega

/-- The pattern of minus infinity. -/
theorem bits_bot : Ideal.ofBits .f32 0xFF800000#32 = ⊥ := by
  simp [Ideal.ofBits, Ideal.ieee]

/-- The kernel's arg-max. -/
theorem greedy_eq (x : FVec Ideal S64x1000 .f32) (b : Fin 64) (p : Fin 1000) (hp : FirstMax (fun k => x (ix2 b k)) p) :
    multiReductionI .minsi [1] S64 (select (cmpf .oeq x (broadcastTo S64x1000 (shapeCast S64x1
        (multiReduction .maximumf [1] S64 x 0xFF800000#32 reduces_S64x1000_S64 (.inl rfl) rfl) shapeCasts_S64_S64x1)
          broadcasts_S64x1_S64x1000)) cols (broadcast S64x1000 1000#32)) 2147483647#32 reduces_S64x1000_S64 rfl (ix1 b)
      = BitVec.ofNat 32 p.val := by
  pointwise
  rw [bits_bot]
  have hm : (Finset.univ : Finset (Fin 1000)).fold max ⊥ (fun k => x (ix2 b k)) = x (ix2 b p) := by
    refine le_antisymm ?_ ?_
    · rw [Finset.fold_max_le]; exact ⟨bot_le, fun k _ => hp.1 k⟩
    · rw [Finset.le_fold_max]; exact .inr ⟨p, Finset.mem_univ _, le_refl _⟩
  rw [hm]
  obtain ⟨h1, h2, h3⟩ := fold_min Finset.univ 2147483647#32 (fun k : Fin 1000 => if x (ix2 b k) = x (ix2 b p) then BitVec.ofNat 32 k.val else 1000#32)
  generalize Finset.fold IntOp.minsi 2147483647#32 _ _ = r at h1 h2 h3 ⊢
  have hp' := h3 p (Finset.mem_univ _)
  rw [if_pos rfl, toInt_col] at hp'
  have hpl := p.isLt
  rcases h1 with h1 | ⟨k, -, h1⟩
  · rw [h1] at hp'
    have : (2147483647#32 : BitVec 32).toInt = 2147483647 := by decide
    omega
  · split at h1
    · rename_i hk
      rw [h1, toInt_col] at hp'
      have hle : p.val ≤ k.val := hp.2 k hk
      rw [h1, show k.val = p.val by omega]
    · rw [h1] at hp'
      have : (1000#32 : BitVec 32).toInt = 1000 := by decide
      omega

/-- A fold of the pairs' reducer keeps the greatest first component, and the least second one where it is attained. -/
def Kept (S : List (EReal × BitVec 32)) (a : EReal × BitVec 32) : Prop :=
  (∀ q ∈ S, q.1 ≤ a.1) ∧ (a ∈ S ∨ a = (⊥, 0#32)) ∧ ∀ q ∈ S, q.1 = a.1 → a.2.toInt ≤ q.2.toInt

theorem reducer_eq (a q : EReal × BitVec 32) :
    Cert.ReferenceIdeal.reducer_argmax_f32_i32 (F := Ideal) a q = if q.1 < a.1 ∨ (a.1 = q.1 ∧ a.2.toInt < q.2.toInt) then a else q := by
  unfold Cert.ReferenceIdeal.reducer_argmax_f32_i32
  dsimp only
  pointwise
  have hs : IntOp.cmpi .slt a.2 q.2 = BitVec.ofBool (decide (a.2.toInt < q.2.toInt)) := by
    simp [IntOp.cmpi, BitVec.slt_eq_decide]
  rw [hs]
  obtain ⟨a1, a2⟩ := a
  obtain ⟨q1, q2⟩ := q
  dsimp only
  by_cases c1 : q1 < a1
  · by_cases c2 : a1 = q1 <;> by_cases c3 : a2.toInt < q2.toInt <;> simp [c1, c2, c3, Scalar.select, IntOp.ori, IntOp.andi]
  · by_cases c2 : a1 = q1
    · by_cases c3 : a2.toInt < q2.toInt
      · simp [c1, c2, c3, Scalar.select, IntOp.ori, IntOp.andi]
      · simp [c1, c2, c3, Scalar.select, IntOp.ori, IntOp.andi]
    · simp [c1, c2, Scalar.select, IntOp.ori, IntOp.andi]

theorem kept_foldl : ∀ (L S : List (EReal × BitVec 32)) (a : EReal × BitVec 32), Kept S a →
    Kept (S ++ L) (L.foldl (Cert.ReferenceIdeal.reducer_argmax_f32_i32 (F := Ideal)) a)
  | [], S, a, h => by simpa using h
  | q :: L, S, a, h => by
    have hq : Kept (S ++ [q]) (Cert.ReferenceIdeal.reducer_argmax_f32_i32 (F := Ideal) a q) := by
      obtain ⟨h1, h2, h3⟩ := h
      rw [reducer_eq]
      by_cases hc : q.1 < a.1 ∨ (a.1 = q.1 ∧ a.2.toInt < q.2.toInt)
      · rw [if_pos hc]
        refine ⟨fun r hr => ?_, ?_, fun r hr he => ?_⟩
        · rcases List.mem_append.1 hr with hr | hr
          · exact h1 r hr
          · rw [List.mem_singleton.1 hr]; rcases hc with hc | hc
            · exact hc.le
            · exact hc.1.ge
        · exact h2.imp (fun h => List.mem_append_left _ h) id
        · rcases List.mem_append.1 hr with hr | hr
          · exact h3 r hr he
          · rw [List.mem_singleton.1 hr] at he ⊢; rcases hc with hc | hc
            · exact absurd he hc.ne
            · exact hc.2.le
      · rw [if_neg hc]
        have hle : a.1 ≤ q.1 := not_lt.1 fun h => hc (.inl h)
        refine ⟨fun r hr => ?_, .inl (by simp), fun r hr he => ?_⟩
        · rcases List.mem_append.1 hr with hr | hr
          · exact (h1 r hr).trans hle
          · rw [List.mem_singleton.1 hr]
        · rcases List.mem_append.1 hr with hr | hr
          · have ha : a.1 = q.1 := le_antisymm hle (he ▸ h1 r hr)
            have h4 := h3 r hr (he.trans ha.symm)
            have h5 : ¬ a.2.toInt < q.2.toInt := fun h => hc (.inr ⟨ha, h⟩)
            omega
          · rw [List.mem_singleton.1 hr]
    have := kept_foldl L (S ++ [q]) _ hq
    rwa [List.append_assoc, List.singleton_append] at this

/-- The reference's arg-max. -/
theorem best_eq (x : FVec Ideal S64x1000 .f32) (b : Fin 64) (p : Fin 1000) (hp : FirstMax (fun k => x (ix2 b k)) p) :
    best x (ix1 b) = BitVec.ofNat 32 p.val := by
  unfold best
  rw [Ideal.argReduce_eq_reduce2, Host.reduce2_eq_foldl_fiber]
  have hk := kept_foldl (Host.argReduceFiber x (iotaInDim S64x1000 32 1) Cert.ReferenceIdeal.Gen.reducesTo_S64x1000_S64_d1 (ix1 b)) []
    (⊥, 0#32) ⟨by simp, .inr rfl, by simp⟩
  have e0 : ((constant Cert.ReferenceIdeal.S_ .f32 0xFF800000#32 : FVec Ideal Cert.ReferenceIdeal.S_ .f32) (Shape.Idx.first Cert.ReferenceIdeal.Gen.h_S_),
      constantI Cert.ReferenceIdeal.S_ 32 0#32 (Shape.Idx.first Cert.ReferenceIdeal.Gen.h_S_)) = ((⊥ : EReal), 0#32) :=
    Prod.ext bits_bot rfl
  rw [e0]
  rw [List.nil_append] at hk
  have hd : ∀ (a : Fin 64) (k : Fin 1000), Cert.ReferenceIdeal.Gen.reducesTo_S64x1000_S64_d1.drop (ix2 a k) = ix1 a := fun a k => by
    funext c; fin_cases c; rfl
  have hin : ∀ q ∈ Host.argReduceFiber x (iotaInDim S64x1000 32 1) Cert.ReferenceIdeal.Gen.reducesTo_S64x1000_S64_d1 (ix1 b),
      ∃ k : Fin 1000, q = (x (ix2 b k), BitVec.ofNat 32 k.val) := fun q hq => by
    obtain ⟨n, hn, rfl⟩ := List.mem_map.1 hq
    have hn' := of_decide_eq_true (List.mem_filter.1 hn).2
    generalize S64x1000.rowMajor.symm n = i at hn' ⊢
    obtain ⟨a, k, rfl⟩ : ∃ (a : Fin 64) (k : Fin 1000), i = ix2 a k := ⟨i 0, i 1, eq_ix2 i⟩
    rw [hd] at hn'
    have : a = b := congrFun hn' 0
    subst this
    exact ⟨k, rfl⟩
  have hall : ∀ k : Fin 1000, (x (ix2 b k), BitVec.ofNat 32 k.val)
      ∈ Host.argReduceFiber x (iotaInDim S64x1000 32 1) Cert.ReferenceIdeal.Gen.reducesTo_S64x1000_S64_d1 (ix1 b) := fun k =>
    List.mem_map.2 ⟨S64x1000.rowMajor (ix2 b k), List.mem_filter.2 ⟨List.mem_finRange _, decide_eq_true (by
      rw [Equiv.symm_apply_apply]; exact hd b k)⟩, by rw [Equiv.symm_apply_apply]; rfl⟩
  obtain ⟨h1, h2, h3⟩ := hk
  generalize List.foldl (Cert.ReferenceIdeal.reducer_argmax_f32_i32 (F := Ideal)) _ _ = r at h1 h2 h3 ⊢
  have hb := h1 _ (hall p)
  rcases h2 with h2 | h2
  · obtain ⟨k, rfl⟩ := hin _ h2
    have hkp : x (ix2 b k) = x (ix2 b p) := le_antisymm (hp.1 k) hb
    have h4 := h3 _ (hall p) hkp.symm
    rw [toInt_col, toInt_col] at h4
    have h5 : p.val ≤ k.val := hp.2 k hkp
    rw [show k.val = p.val by omega]
  · subst h2
    have hpb : x (ix2 b p) = ⊥ := le_antisymm hb bot_le
    have h5 : p ≤ 0 := hp.2 0 (le_antisymm (hp.1 0) (hpb.le.trans bot_le))
    rw [show p = 0 from le_antisymm h5 (Fin.zero_le _)]
    rfl

end Cert.Same

end

end
-- ==== Proof.V.Token.lean ====
/- The token fed to the next trip: the kernel's sum over the masked columns of the targets and its test of
   the sign pick what the reference's comparison of the coin picks. -/
module

public import proofs.«01_k».proof.Proof.V.Best

@[expose] public section

set_option maxRecDepth 16384

noncomputable section

namespace Cert.Same

open Cert.KernelIdeal Cert.KernelIdeal.Gen
open Cert.ReferenceIdeal.Step (best rowAt columns coins pick)
open Cert.KernelIdeal.Step (column forced)
open Idealize.ShloMosaic Idealize.ShloMosaic.TcCoe Idealize.ShloMosaic.Tactic

/-- The two programs carry the same table of coins. -/
theorem coins_same : Cert.KernelIdeal.lit0 = Cert.ReferenceIdeal.lit0 := rfl

theorem start_zero (k : ℕ) (hk : k < 63) : (Scf.iv 0#32 1#32 k).toInt = (k : ℤ) := by
  have h1 : (Scf.iv 0#32 1#32 k).toNat = k := by
    simp only [Scf.iv, BitVec.toNat_add, BitVec.toNat_mul, BitVec.toNat_ofNat]
    omega
  rw [BitVec.toInt_eq_toNat_cond, h1]
  norm_num
  omega

theorem start_one (k : ℕ) (_hk : k < 63) : Scf.iv 1#32 1#32 k = BitVec.ofNat 32 (k + 1) := by
  apply BitVec.eq_of_toNat_eq
  simp only [Scf.iv, BitVec.toNat_add, BitVec.toNat_mul, BitVec.toNat_ofNat]
  norm_num
  omega

/-- Trip `k` reads column `k + 1` of a table whose columns after the first are its rows. -/
theorem row_apply {α : Type} (x : S64x64.Idx → α) (k : ℕ) (hk : k < 63) (b : Fin 64) :
    rowAt (columns x) (fun _ => Scf.iv 0#32 1#32 k) (ix1 b) = x (ix2 b ⟨k + 1, by omega⟩) := by
  pointwise [rowAt, columns]
  refine congrArg x (congrArg₂ ix2 (Fin.ext ?_) (Fin.ext ?_))
  · show Host.clampedStart _ _ _ _ _ + b.val = b.val
    rw [Host.clampedStart_of_le _ _ _ 0 (by rfl) (by decide)]
    omega
  · show 1 + Host.clampedStart _ _ _ _ _ = k + 1
    rw [Host.clampedStart_of_le _ _ _ k (start_zero k hk) (show k + 1 ≤ 63 by omega)]
    omega

theorem fold_one (f : Fin 64 → BitVec 32) (t : Fin 64) (h : ∀ i, i ≠ t → f i = 0#32) :
    Finset.univ.fold IntOp.addi 0#32 f = f t := by
  have e : Finset.univ.fold IntOp.addi 0#32 f = ∑ i, f i := rfl
  rw [e]
  exact Finset.sum_eq_single t (fun i _ hi => h i hi) (fun hn => absurd (Finset.mem_univ t) hn)

/-- The kernel's column of the targets: its masked sum over the columns keeps one of them. -/
theorem column_apply (y : IVec S64x64 32) (k : ℕ) (hk : k < 63) (b : Fin 64) :
    Finset.univ.fold IntOp.addi 0#32 (fun x => column (k0_pay6 (F := Ideal) y) (iota .tc S64x64 32 [1] iota_S64x64_d1_w32) k (ix2 b x))
      = y (ix2 b ⟨k + 1, by omega⟩) := by
  have hx : ∀ x : Fin 64, column (k0_pay6 (F := Ideal) y) (iota .tc S64x64 32 [1] iota_S64x64_d1_w32) k (ix2 b x)
      = IntOp.muli (y (ix2 b x)) (BitVec.setWidth 32 (IntOp.cmpi CmpIPredicate.eq (BitVec.ofNat 32 x.val) (Scf.iv 1#32 1#32 k))) := by
    intro x
    pointwise [column, k0_pay6]
  rw [fold_one _ ⟨k + 1, by omega⟩]
  · rw [hx, start_one k hk]
    simp [IntOp.muli, IntOp.cmpi]
  · intro i hi
    rw [hx, start_one k hk]
    have hne : BitVec.ofNat 32 i.val ≠ BitVec.ofNat 32 (k + 1) := by
      intro he
      apply hi
      have := congrArg BitVec.toNat he
      simp only [BitVec.toNat_ofNat] at this
      apply Fin.ext
      have := i.isLt
      show i.val = k + 1
      omega
    have hb : ((BitVec.ofNat 32 i.val == BitVec.ofNat 32 (k + 1)) : Bool) = false := by simpa using hne
    simp [IntOp.muli, IntOp.cmpi, hb]

theorem forced_apply (y : IVec S64x64 32) (b c : Fin 64) : forced (F := Ideal) y (ix2 b c)
    = if coins (F := Ideal) (ix2 b c) < Ideal.ofBits .f32 0x3F000000#32 then y (ix2 b c) else 4294967295#32 := by
  pointwise [forced, coins]
  rfl

theorem token_apply (g : IVec S64x1 32) (v : IVec S64x64 32) (b : Fin 64) (w : BitVec 32)
    (hw : Finset.univ.fold IntOp.addi 0#32 (fun x => v (ix2 b x)) = w) :
    k0_pay10 g v (ix2 b 0) = Scalar.select (IntOp.cmpi .sge w 0#32) w (g (ix2 b 0)) := by
  subst hw
  pointwise [k0_pay10]

theorem pick_apply (x : FVec Ideal S64 .f32) (y g : IVec S64 32) (b : Fin 64) :
    pick x y g (ix1 b) = if x (ix1 b) < Ideal.ofBits .f32 0x3F000000#32 then y (ix1 b) else g (ix1 b) := by
  pointwise [pick]

/-- The token that one trip hands to the next is one token in both programs, and it names a row of the table. -/
theorem token_eq (y : IVec S64x64 32) (hy : ∀ b c : Fin 64, (y (ix2 b c)).toNat < 1000) (k : ℕ) (hk : k < 63)
    (gk : IVec S64x1 32) (g : IVec S64 32) (hg : Tok gk g) :
    Tok (k0_pay10 gk (column (k0_pay6 (F := Ideal) (forced (F := Ideal) y)) (iota .tc S64x64 32 [1] iota_S64x64_d1_w32) k))
      (pick (rowAt (columns (coins (F := Ideal))) (fun _ => Scf.iv 0#32 1#32 k)) (rowAt (columns y) (fun _ => Scf.iv 0#32 1#32 k)) g) := by
  intro b
  rw [token_apply gk _ b _ (column_apply (forced (F := Ideal) y) k hk b), pick_apply, row_apply _ k hk, row_apply _ k hk, forced_apply]
  split
  · have h := hy b ⟨k + 1, by omega⟩
    refine ⟨?_, h⟩
    have hs : IntOp.cmpi .sge (y (ix2 b ⟨k + 1, by omega⟩)) 0#32 = 1#1 := by
      have : (0#32).sle (y (ix2 b ⟨k + 1, by omega⟩)) = true := by
        rw [BitVec.sle_iff_toInt_le, BitVec.toInt_eq_toNat_cond (y _), if_pos (by omega)]
        exact Int.natCast_nonneg _
      simp [IntOp.cmpi, this]
    rw [hs]
    rfl
  · refine ⟨?_, (hg b).2⟩
    exact (hg b).1

end Cert.Same

end

end
-- ==== Proof.V.Trip.lean ====
/- One trip of both loops: from equal states, and tokens that name the same rows, the kernel's trip and the
   reference's make the same state, the same logits and the same tokens. -/
module

public import proofs.«01_k».proof.Proof.V.Token

@[expose] public section

set_option maxRecDepth 16384

noncomputable section

namespace Cert.Same

open Cert.KernelIdeal Cert.KernelIdeal.Gen
open Cert.ReferenceIdeal.Step (best rowAt columns coins pick cell gateX gateH rows logits)
open Cert.KernelIdeal.Step (column forced step stored)
open Idealize.ShloMosaic Idealize.ShloMosaic.TcCoe Idealize.ShloMosaic.Tactic

variable (y : IVec S64x64 32) (emb : FVec Ideal S1000x256 .f32) (Wi : FVec Ideal S256x1536 .f32) (Wh : FVec Ideal S512x1536 .f32)
  (bi bh : FVec Ideal S1536 .f32) (Wo : FVec Ideal S512x1000 .f32) (bo : FVec Ideal S1000 .f32)

/-- The column numbers of the targets. -/
abbrev times : IVec S64x64 32 := iota .tc S64x64 32 [1] iota_S64x64_d1_w32

/-- The state a trip makes. -/
def after (h : FVec Ideal S64x512 .f32) (tok : IVec S64 32) : FVec Ideal S64x512 .f32 := cell (gateX (rows emb tok) Wi bi) (gateH h Wh bh) h

theorem col_apply (g : IVec S64 32) (b : Fin 64) : shapeCast S64x1 g shapeCasts_S64_S64x1 (ix2 b 0) = g (ix1 b) := by
  pointwise

/-- The greedy tokens. -/
theorem greedy_tok (x : FVec Ideal S64x1000 .f32) : Tok (shapeCast S64x1 (multiReductionI .minsi [1] S64 (select (cmpf .oeq x
      (broadcastTo S64x1000 (shapeCast S64x1 (multiReduction .maximumf [1] S64 x 0xFF800000#32 reduces_S64x1000_S64 (.inl rfl) rfl)
        shapeCasts_S64_S64x1) broadcasts_S64x1_S64x1000)) cols (broadcast S64x1000 1000#32)) 2147483647#32 reduces_S64x1000_S64 rfl)
      shapeCasts_S64_S64x1) (best x) := by
  intro b
  obtain ⟨p, hp⟩ := firstMax_exists fun k => x (ix2 b k)
  have hg := greedy_eq x b p hp
  rw [best_eq x b p hp]
  refine ⟨(col_apply _ b).trans hg, ?_⟩
  · have := p.isLt
    rw [BitVec.toNat_ofNat]
    omega

/-- The logits of the kernel's trip. -/
theorem trip_logits (h : FVec Ideal S64x512 .f32) (tk : IVec S64x1 32) (tok : IVec S64 32) (ht : Tok tk tok) :
    k0_pay14 cols (k0_pay2 (shapeCast S1x1536 bi shapeCasts_S1536_S1x1536)) (k0_pay4 (shapeCast S1x1000 bo shapeCasts_S1000_S1x1000)) emb Wi
      (k0_pay5 (joined Wh Wo)) h tk (gateH h Wh bh) = logits (after emb Wi Wh bi bh h tok) Wo bo := by
  unfold k0_pay14 k0_pay12
  dsimp only
  rw [state_eq emb Wi bi h tk tok _ ht]
  exact logits_eq _ Wh Wo bo

/-- One trip of the kernel makes the reference's state, tokens and products. -/
theorem trip_same (hy : ∀ b c : Fin 64, (y (ix2 b c)).toNat < 1000) (k : ℕ) (hk : k < 63)
    (h : FVec Ideal S64x512 .f32) (tk : IVec S64x1 32) (tok : IVec S64 32) (ht : Tok tk tok) :
    let a := step cols (shapeCast S1x1536 bi shapeCasts_S1536_S1x1536) (shapeCast S1x1536 bh shapeCasts_S1536_S1x1536)
      (shapeCast S1x1000 bo shapeCasts_S1000_S1x1000) emb Wi (joined Wh Wo) (forced (F := Ideal) y) times k (h, tk, gateH h Wh bh)
    a.1 = after emb Wi Wh bi bh h tok
      ∧ Tok a.2.1 (pick (rowAt (columns (coins (F := Ideal))) (fun _ => Scf.iv 0#32 1#32 k)) (rowAt (columns y) (fun _ => Scf.iv 0#32 1#32 k))
          (best (logits (after emb Wi Wh bi bh h tok) Wo bo)))
      ∧ a.2.2 = gateH (after emb Wi Wh bi bh h tok) Wh bh := by
  refine ⟨state_eq emb Wi bi h tk tok _ ht, token_eq y hy k hk _ _ ?_, ?_⟩
  · unfold k0_pay16
    dsimp only
    rw [trip_logits emb Wi Wh bi bh Wo bo h tk tok ht]
    exact greedy_tok _
  · show k0_pay13 _ _ _ _ _ _ _ _ _ = _
    unfold k0_pay13 k0_pay12
    dsimp only
    rw [state_eq emb Wi bi h tk tok _ ht]
    exact gateH_eq _ Wh Wo bh

/-- What one trip of the kernel stores. -/
theorem stored_same (h : FVec Ideal S64x512 .f32) (tk : IVec S64x1 32) (tok : IVec S64 32) (ht : Tok tk tok) (b : Fin 64) (v : Fin 1000) :
    stored cols (shapeCast S1x1536 bi shapeCasts_S1536_S1x1536) (shapeCast S1x1536 bh shapeCasts_S1536_S1x1536)
      (shapeCast S1x1000 bo shapeCasts_S1000_S1x1000) emb Wi (joined Wh Wo) (forced (F := Ideal) y) times (h, tk, gateH h Wh bh) (ix3 0 b v)
      = logits (after emb Wi Wh bi bh h tok) Wo bo (ix2 b v) := by
  unfold stored k0_pay15
  dsimp only
  rw [trip_logits emb Wi Wh bi bh Wo bo h tk tok ht]
  generalize logits _ Wo bo = x
  pointwise

end Cert.Same

end

end
-- ==== Proof.V.First.lean ====
/- The first matrix of the result, and the store of one matrix among the later ones. -/
module

public import proofs.«01_k».proof.Proof.V.Token
public import Idealize.ShloMosaic.Lib.Routing.OpsSet

@[expose] public section

set_option maxRecDepth 16384

noncomputable section

namespace Cert.Same

open Cert.KernelIdeal Cert.KernelIdeal.Gen
open Cert.ReferenceIdeal.Step (first putAt)
open Idealize.ShloMosaic Idealize.ShloMosaic.TcCoe Idealize.ShloMosaic.Tactic

/-- Where trip `k` starts its store. -/
abbrev starts (k : ℕ) : Fin 3 → ℤ := fun q => ((![fun _ => Scf.iv (0#32) (1#32) k, constantI Cert.ReferenceIdeal.S_ 32 0#32,
  constantI Cert.ReferenceIdeal.S_ 32 0#32] : Fin 3 → IVec Cert.ReferenceIdeal.S_ 32) q (Shape.Idx.first Cert.ReferenceIdeal.Gen.h_S_)).toInt

/-- Storing one matrix changes that matrix alone. -/
theorem put_apply (x : FVec Ideal Cert.ReferenceIdeal.S63x64x1000 .f32) (u : FVec Ideal S64x1000 .f32) (k : ℕ) (hk : k < 63)
    (i : Fin 63) (b : Fin 64) (v : Fin 1000) :
    putAt x u (fun _ => Scf.iv 0#32 1#32 k) (ix3 i b v) = if i.val = k then u (ix2 b v) else x (ix3 i b v) := by
  have h0 : ∀ (f : Fin 3 → ℤ) (_ : f 0 = (k : ℤ)), Host.clampedStart Cert.ReferenceIdeal.S63x64x1000 Cert.ReferenceIdeal.S1x64x1000 rfl f 0 = k :=
    fun f hf => Host.clampedStart_of_le _ _ _ k hf (show k + 1 ≤ 63 by omega)
  have h1 : ∀ (f : Fin 3 → ℤ) (_ : f 1 = 0), Host.clampedStart Cert.ReferenceIdeal.S63x64x1000 Cert.ReferenceIdeal.S1x64x1000 rfl f 1 = 0 :=
    fun f hf => Host.clampedStart_of_le _ _ _ 0 hf (by decide)
  have h2 : ∀ (f : Fin 3 → ℤ) (_ : f 2 = 0), Host.clampedStart Cert.ReferenceIdeal.S63x64x1000 Cert.ReferenceIdeal.S1x64x1000 rfl f 2 = 0 :=
    fun f hf => Host.clampedStart_of_le _ _ _ 0 hf (by decide)
  pointwise [putAt]
  have f0 := h0 (starts k) (start_zero k hk)
  have f1 := h1 (starts k) rfl
  have f2 := h2 (starts k) rfl
  by_cases hi : i.val = k
  · rw [if_pos hi, dif_pos (by
      simp only [f0, f1, f2]
      omega)]
    refine congrArg u (congrArg₂ ix2 (Fin.ext ?_) (Fin.ext ?_))
    · show b.val - _ = b.val
      rw [f1]; rfl
    · show v.val - _ = v.val
      rw [f2]; rfl
  · rw [if_neg hi, dif_neg (by
      simp only [f0, f1, f2]
      omega)]

/-- Where an update of the first matrix lands: in column one, at its own row. -/
theorem lands (k b : Fin 64) (v : Fin 1000) :
    Cert.ReferenceIdeal.scatter_S64x1000_S1_S64_0_1_1_0.resultIdx? (ix1 k)
      (broadcastInDim Cert.ReferenceIdeal.S1 ![] Cert.ReferenceIdeal.Gen.bcast_S_S1 (constantI Cert.ReferenceIdeal.S_ 32 1#32)) = some (ix2 b v)
      ↔ k = b ∧ v.val = 1 := by
  refine (Routing.resultIdx?_ix2 _ _ _ b v).trans ?_
  have s0 : Cert.ReferenceIdeal.scatter_S64x1000_S1_S64_0_1_1_0.start (ix1 k)
      (broadcastInDim Cert.ReferenceIdeal.S1 ![] Cert.ReferenceIdeal.Gen.bcast_S_S1 (constantI Cert.ReferenceIdeal.S_ 32 1#32)) 0 = 0 := rfl
  have s1 : Cert.ReferenceIdeal.scatter_S64x1000_S1_S64_0_1_1_0.start (ix1 k)
      (broadcastInDim Cert.ReferenceIdeal.S1 ![] Cert.ReferenceIdeal.Gen.bcast_S_S1 (constantI Cert.ReferenceIdeal.S_ 32 1#32)) 1 = 1 := rfl
  have w0 : Cert.ReferenceIdeal.scatter_S64x1000_S1_S64_0_1_1_0.window (ix1 k) 0 = k.val := rfl
  have w1 : Cert.ReferenceIdeal.scatter_S64x1000_S1_S64_0_1_1_0.window (ix1 k) 1 = 0 := rfl
  rw [s0, s1, w0, w1, Fin.ext_iff]
  omega

/-- The first matrix: zero in column one and the constant elsewhere, in both programs. -/
theorem first_apply (b : Fin 64) (v : Fin 1000) : first (F := Ideal) (ix2 b v) = k0_pay1 (F := Ideal) (ix3 0 b v) := by
  have hr : k0_pay1 (F := Ideal) (ix3 0 b v)
      = Scalar.select (IntOp.cmpi .eq (BitVec.ofNat 32 v.val) 1#32) 0 (Ideal.ofBits .f32 0x38D1B717#32) := by
    pointwise [k0_pay1]
  rw [hr]
  unfold first
  by_cases hv : v.val = 1
  · rw [Routing.scatter_set_hit _ _ _ _ _ 0 (fun k _ => by pointwise) (ix1 b) ((lands b b v).2 ⟨rfl, hv⟩), hv]
    rfl
  · rw [Routing.scatter_set_miss _ _ _ _ _ (fun k hk => by
      obtain ⟨q, rfl⟩ : ∃ q : Fin 64, k = ix1 q := ⟨k 0, eq_ix1 k⟩
      exact hv ((lands q b v).1 hk).2)]
    have hb : ((BitVec.ofNat 32 v.val == 1#32) : Bool) = false := by
      rw [beq_eq_false_iff_ne]
      intro he
      have := congrArg BitVec.toNat he
      rw [BitVec.toNat_ofNat] at this
      have := v.isLt
      simp at *
      omega
    simp [IntOp.cmpi, hb, Scalar.select]
    pointwise

end Cert.Same

end

end
-- ==== Proof.V.Equal.lean ====
/- What the two programs leave is one array. Before every trip the two loops carry equal states, tokens
   and products, so each trip stores the reference's logits; the first matrix is the same constant. -/
module

public import proofs.«01_k».proof.Proof.V.Trip
public import proofs.«01_k».proof.Proof.V.First

@[expose] public section

set_option maxRecDepth 16384

noncomputable section

namespace Cert.Same

open Cert.KernelIdeal.Gen
open Cert.KernelIdeal (S64x64 S1000x256 S256x1536 S512x1536 S1536 S512x1000 S1000 S64x1000 S64x512 S1x1536 S1x1000 S64 S64x64x1000)
open Cert.ReferenceIdeal (nD τ sig main_arg0 main_arg1 main_arg2 main_arg3 main_arg4 main_arg5 main_arg6 main_arg7 main_v11_0 main_v11_1
  main_v11_2 main_v11_3 main_v11_4 main_v11_5 main_v11_6 main_v11_7 main_v11_8 main_v11_9 main_v11_10 main_v11_11 main_v11_12 main_v13)
open Cert.ReferenceIdeal.Value (atK atK_ctr preI bodyI postI condOps)
open Cert.ReferenceIdeal.Step (best rowAt columns coins pick gateH logits nextH nextL putAt first atK_kept trip_h trip_tok trip_out mid_coin
  mid_target entry_0 entry_1 entry_2 entry_3 entry_4 entry_5 entry_6 entry_7 entry_8 entry_h entry_tok final_v13)
open Cert.KernelIdeal.Step (forced carried left)
open Idealize.ShloMosaic Idealize.ShloMosaic.TcCoe Idealize.ShloMosaic.Tactic Idealize.SL.Sem

variable (m : (ℓ : Loc nD τ sig) → Buf (Elt Ideal) ℓ) (c : Dev nD)

abbrev aY : IVec S64x64 32 := m ((c.tc : Thread nD τ).loc main_arg0)
abbrev aEmb : FVec Ideal S1000x256 .f32 := m ((c.tc : Thread nD τ).loc main_arg1)
abbrev aWi : FVec Ideal S256x1536 .f32 := m ((c.tc : Thread nD τ).loc main_arg2)
abbrev aWh : FVec Ideal S512x1536 .f32 := m ((c.tc : Thread nD τ).loc main_arg3)
abbrev aBi : FVec Ideal S1536 .f32 := m ((c.tc : Thread nD τ).loc main_arg4)
abbrev aBh : FVec Ideal S1536 .f32 := m ((c.tc : Thread nD τ).loc main_arg5)
abbrev aWo : FVec Ideal S512x1000 .f32 := m ((c.tc : Thread nD τ).loc main_arg6)
abbrev aBo : FVec Ideal S1000 .f32 := m ((c.tc : Thread nD τ).loc main_arg7)

/-- The reference's state before trip `k`. -/
abbrev refH (k : ℕ) : FVec Ideal S64x512 .f32 := atK m k c (Proc.devRef .tc main_v11_10)
/-- The reference's tokens before trip `k`. -/
abbrev refT (k : ℕ) : IVec S64 32 := atK m k c (Proc.devRef .tc main_v11_11)

theorem next_state (k : ℕ) : nextH (atK m k c) = after (aEmb m c) (aWi m c) (aWh m c) (aBi m c) (aBh m c) (refH m c k) (refT m c k) := by
  unfold nextH after
  rw [atK_kept m c main_v11_2 (by decide +kernel), atK_kept m c main_v11_3 (by decide +kernel), atK_kept m c main_v11_4 (by decide +kernel),
    atK_kept m c main_v11_5 (by decide +kernel), atK_kept m c main_v11_6 (by decide +kernel), entry_2, entry_3, entry_4, entry_5, entry_6]

theorem next_logits (k : ℕ) : nextL (atK m k c)
    = logits (after (aEmb m c) (aWi m c) (aWh m c) (aBi m c) (aBh m c) (refH m c k) (refT m c k)) (aWo m c) (aBo m c) := by
  unfold nextL
  rw [next_state, atK_kept m c main_v11_7 (by decide +kernel), atK_kept m c main_v11_8 (by decide +kernel), entry_7, entry_8]

theorem next_tok (k : ℕ) : refT m c (k + 1) = pick (rowAt (columns (coins (F := Ideal))) (fun _ => Scf.iv 0#32 1#32 k))
    (rowAt (columns (aY m c)) (fun _ => Scf.iv 0#32 1#32 k))
    (best (logits (after (aEmb m c) (aWi m c) (aWh m c) (aBi m c) (aBh m c) (refH m c k) (refT m c k)) (aWo m c) (aBo m c))) := by
  have e : refT m c (k + 1) = _ := trip_tok (atK m k c)
  rw [e, mid_coin, mid_target, next_logits, atK_kept m c main_v11_0 (by decide +kernel), atK_kept m c main_v11_1 (by decide +kernel),
    entry_0, entry_1, atK_ctr]
  rfl

/-- What the kernel carries before trip `k`, over the reference's arrays. -/
abbrev kern (k : ℕ) := carried (F := Ideal) (forced (F := Ideal) (aY m c)) (aEmb m c) (aWi m c) (joined (aWh m c) (aWo m c))
  (shapeCast S1x1536 (aBi m c) shapeCasts_S1536_S1x1536) (shapeCast S1x1536 (aBh m c) shapeCasts_S1536_S1x1536)
  (shapeCast S1x1000 (aBo m c) shapeCasts_S1000_S1x1000) k

/-- Before every trip the two loops carry the same. -/
theorem carried_same (hy : ∀ a b : Fin 64, (aY m c (ix2 a b)).toNat < 1000) :
    ∀ k, k ≤ 63 → (kern m c k).1 = refH m c k ∧ Tok (kern m c k).2.1 (refT m c k)
      ∧ (kern m c k).2.2 = gateH (refH m c k) (aWh m c) (aBh m c)
  | 0, _ => by
    have h1 : refH m c 0 = Cert.ReferenceIdeal.Step.h0 := entry_h m c
    have h2 : refT m c 0 = Cert.ReferenceIdeal.Step.tok0 := entry_tok m c
    rw [h1, h2]
    exact ⟨state_zero, tok_zero, gateH_zero (aWh m c) (aBh m c)⟩
  | k + 1, hk => by
    obtain ⟨i1, i2, i3⟩ := carried_same hy k (by omega)
    have ea : kern m c k = (refH m c k, (kern m c k).2.1, gateH (refH m c k) (aWh m c) (aBh m c)) :=
      Prod.ext i1 (Prod.ext rfl i3)
    have es : kern m c (k + 1) = Cert.KernelIdeal.Step.step cols (shapeCast S1x1536 (aBi m c) shapeCasts_S1536_S1x1536)
        (shapeCast S1x1536 (aBh m c) shapeCasts_S1536_S1x1536) (shapeCast S1x1000 (aBo m c) shapeCasts_S1000_S1x1000)
        (aEmb m c) (aWi m c) (joined (aWh m c) (aWo m c)) (forced (F := Ideal) (aY m c)) times k
        (refH m c k, (kern m c k).2.1, gateH (refH m c k) (aWh m c) (aBh m c)) := by
      rw [← ea]; rfl
    have hs := trip_same (aY m c) (aEmb m c) (aWi m c) (aWh m c) (aBi m c) (aBh m c) (aWo m c) (aBo m c) hy k (by omega)
      (refH m c k) (kern m c k).2.1 (refT m c k) i2
    have eh : refH m c (k + 1) = _ := (trip_h (atK m k c)).trans (next_state m c k)
    rw [es, eh, next_tok]
    exact hs

/-- After `n` trips matrix `i < n` of the outputs holds the logits of trip `i`. -/
theorem outputs (i : Fin 63) (b : Fin 64) (v : Fin 1000) : ∀ n, n ≤ 63 → i.val < n →
    (atK m n c (Proc.devRef .tc main_v11_12) : FVec Ideal Cert.ReferenceIdeal.S63x64x1000 .f32) (ix3 i b v) = nextL (atK m i.val c) (ix2 b v)
  | 0, _, h => absurd h (Nat.not_lt_zero _)
  | n + 1, hn, h => by
    have e : (atK m (n + 1) c (Proc.devRef .tc main_v11_12) : FVec Ideal Cert.ReferenceIdeal.S63x64x1000 .f32) = _ := trip_out (atK m n c)
    rw [e, atK_ctr]
    refine (put_apply _ _ n (by omega) i b v).trans ?_
    by_cases hi : i.val = n
    · rw [if_pos hi, hi]
    · rw [if_neg hi]
      exact outputs i b v n (by omega) (by omega)

/-- What the kernel leaves is what the reference returns. -/
theorem left_eq (hy : ∀ a b : Fin 64, (aY m c (ix2 a b)).toNat < 1000) (n : ℕ) (hn : n = 63) :
    left (F := Ideal) (forced (F := Ideal) (aY m c)) (aEmb m c) (aWi m c) (joined (aWh m c) (aWo m c))
      (shapeCast S1x1536 (aBi m c) shapeCasts_S1536_S1x1536) (shapeCast S1x1536 (aBh m c) shapeCasts_S1536_S1x1536)
      (shapeCast S1x1000 (aBo m c) shapeCasts_S1000_S1x1000)
      = StableHlo.finalContents condOps preI bodyI postI n m c (Proc.devRef .tc main_v13) := by
  rw [final_v13]
  funext j
  obtain ⟨i, b, v, rfl⟩ : ∃ (i b : Fin 64) (v : Fin 1000), j = ix3 i b v := ⟨j 0, j 1, j 2, eq_ix3 j⟩
  have e : left (F := Ideal) (forced (F := Ideal) (aY m c)) (aEmb m c) (aWi m c) (joined (aWh m c) (aWo m c))
      (shapeCast S1x1536 (aBi m c) shapeCasts_S1536_S1x1536) (shapeCast S1x1536 (aBh m c) shapeCasts_S1536_S1x1536)
      (shapeCast S1x1000 (aBo m c) shapeCasts_S1000_S1x1000) (ix3 i b v)
      = if _ : i.val < 1 then first (F := Ideal) (ix2 b v) else nextL (atK m (i.val - 1) c) (ix2 b v) := by
    by_cases hi : i.val < 1
    · rw [dif_pos hi]
      exact (if_neg (show ¬ 0 < i.val by omega)).trans (first_apply b v).symm
    · rw [dif_neg hi, next_logits]
      obtain ⟨i1, i2, i3⟩ := carried_same m c hy (i.val - 1) (by omega)
      have ea : kern m c (i.val - 1) = (refH m c (i.val - 1), (kern m c (i.val - 1)).2.1, gateH (refH m c (i.val - 1)) (aWh m c) (aBh m c)) :=
        Prod.ext i1 (Prod.ext rfl i3)
      have hs := stored_same (aY m c) (aEmb m c) (aWi m c) (aWh m c) (aBi m c) (aBh m c) (aWo m c) (aBo m c) (refH m c (i.val - 1))
        (kern m c (i.val - 1)).2.1 (refT m c (i.val - 1)) i2 b v
      rw [← ea] at hs
      exact (if_pos (show 0 < i.val by omega)).trans hs
  rw [e]
  pointwise
  by_cases hi : i.val < 1
  · rw [dif_pos hi, dif_pos hi]
  · rw [dif_neg hi, dif_neg hi]
    exact (outputs m c ⟨i.val - 1, by omega⟩ b v n (by omega) (by show i.val - 1 < n; omega)).symm

end Cert.Same

end

end
-- ==== Proof.V.RefFrame.lean ====
/- The reference leaves its arguments as they were, and no counter of its machine moves: it has none. -/
module

public import proofs.«01_k».proof.Proof.V.RefRun
public import Idealize.ShloMosaic.Lib.Claim
public import Idealize.ShloMosaic.Lib.Quiescent

@[expose] public section

set_option maxRecDepth 16384

noncomputable section

namespace Cert.ReferenceIdeal.Step

open Cert.ReferenceIdeal Cert.ReferenceIdeal.Gen Cert.ReferenceIdeal.Value
open Idealize.ShloMosaic Idealize.ShloMosaic.TcCoe Idealize.ShloMosaic.Tactic
open Idealize.SL Idealize.SL.Sem
open Idealize.ShloMosaic.StableHlo

variable {F : FTy → Type} [FloatOps F]

/-- The arguments. -/
abbrev args : List (Ref sig .tc) := [main_arg0, main_arg1, main_arg2, main_arg3, main_arg4, main_arg5, main_arg6, main_arg7]

theorem cond_arg (V : Valuation τ sig (Elt F)) (r : Ref sig .tc) (hr : r ∈ args) :
    after condOps V (Proc.devRef .tc r) = V (Proc.devRef .tc r) :=
  after_of_writes_sub _ _ condOps_writes (by revert r; decide +kernel)

theorem trip_arg (V : Valuation τ sig (Elt F)) (r : Ref sig .tc) (hr : r ∈ args) :
    trip V (Proc.devRef .tc r) = V (Proc.devRef .tc r) := by
  rw [trip_eq]
  simp only [mid, afterL_cons, afterL_nil]
  rw [after_of_writes_sub _ _ while0Ops0_8_writes (by revert r; decide +kernel),
    after_of_writes_sub _ _ while0Ops0_7_writes (by revert r; decide +kernel),
    after_of_writes_sub _ _ while0Ops0_6_writes (by revert r; decide +kernel),
    after_of_writes_sub _ _ while0Ops0_5_writes (by revert r; decide +kernel),
    after_of_writes_sub _ _ while0Ops0_4_writes (by revert r; decide +kernel),
    after_of_writes_sub _ _ while0Ops0_3_writes (by revert r; decide +kernel),
    after_of_writes_sub _ _ while0Ops0_2_writes (by revert r; decide +kernel),
    after_of_writes_sub _ _ while0Ops0_1_writes (by revert r; decide +kernel),
    after_of_writes_sub _ _ while0Ops0_writes (by revert r; decide +kernel), cond_arg V r hr]

variable (m : (ℓ : Loc nD τ sig) → Buf (Elt F) ℓ) (ρ : Dev nD → PrngReg)

theorem atK_arg (c : Dev nD) (r : Ref sig .tc) (hr : r ∈ args) :
    ∀ k, atK m k c (Proc.devRef .tc r) = m ((c.tc : Thread nD τ).loc r)
  | 0 => by
    show entryContents preI m c (Proc.devRef .tc r) = _
    simp only [entryContents, afterL_cons, afterL_nil]
    rw [after_of_writes_sub _ _ hostOps0_writes (by revert r; decide +kernel)]
  | k + 1 => (trip_arg (atK m k c) r hr).trans (atK_arg c r hr k)

theorem post_writes : (hostOps0_1 : List (HloOp τ sig (Elt F))).Forall fun op =>
    op.writes ⊆ (([main_v12, main_v13] : List (Ref sig .tc)).map (Proc.devRef (τ := τ) .tc)).toFinset :=
  forall_writes_sub_of_map rfl

theorem post_arg (V : Valuation τ sig (Elt F)) (r : Ref sig .tc) (hr : r ∈ args) :
    afterL postI (after condOps V) (Proc.devRef .tc r) = V (Proc.devRef .tc r) := by
  simp only [afterL_cons, afterL_nil]
  rw [after_of_writes_sub _ _ post_writes (by revert r; decide +kernel), cond_arg V r hr]

theorem final_arg (c : Dev nD) (r : Ref sig .tc) (hr : r ∈ args) (n : ℕ) :
    finalContents condOps preI bodyI postI n m c (Proc.devRef .tc r) = m ((c.tc : Thread nD τ).loc r) :=
  (post_arg (atK m n c) r hr).trans (atK_arg m c r hr n)

/-- The run of the reference: its result, its arguments and its counters. -/
theorem run_ref : θ_run (defs (F := F)) (onTc (τ := τ) (main (F := F))) ⟨m, fun _ => 0, ρ⟩ (fun r => (∀ c : Dev nD,
      r.2.mem ((c.tc : Thread nD τ).loc main_v13) = finalContents condOps preI bodyI postI 63 m c (Proc.devRef .tc main_v13)
      ∧ ∀ a ∈ args, r.2.mem ((c.tc : Thread nD τ).loc a) = m ((c.tc : Thread nD τ).loc a)) ∧ r.2.sem = fun _ => 0) :=
  (θ_run (defs (F := F)) _ _).mono (fun r h => ⟨fun c => ⟨h c main_v13 rfl, fun a ha => (h c a (by revert a; decide +kernel)).trans
    (final_arg m c a ha 63)⟩, sem_eq_zero_of_no_sems (by decide) r.2⟩) (run_fold m ρ)

end Cert.ReferenceIdeal.Step

end

end
-- ==== Proof.lean ====
/- The proof of the certificate. The kernel's loop and the reference's loop carry equal states, equal tokens
   and equal products before every trip, so that the array the kernel leaves is the one the reference
   returns; the modules under `Proof/V/` hold that argument, and this one puts the claims together. -/
module

public import proofs.«01_k».proof.Proof.Gen.ReferenceIdeal.Run
public import proofs.«01_k».proof.Proof.Gen.KernelIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tokens_in_vocabulary
public import proofs.«01_k».proof.Proof.V.Equal
public import proofs.«01_k».proof.Proof.V.RefFrame
public import Idealize.ShloMosaic.Lib.ReduceAll
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem Cert.Kernel

/-- What the precondition says of one target. -/
theorem target_lt (y : IVec Cert.KernelIdeal.S64x64 32) (x1 x2 x3 x4 x5 x6 x7)
    (h : Cert.Pre_tokens_in_vocabulary.fn (F := Ideal) y x1 x2 x3 x4 x5 x6 x7 = fun _ => 1#1) (a b : Fin 64) : (y (ix2 a b)).toNat < 1000 := by
  have e : IntOp.andi (IntOp.cmpi .sge (y (ix2 a b)) 0#32) (IntOp.cmpi .slt (y (ix2 a b)) 1000#32) = 1#1 := by
    have : Subsingleton Cert.Pre_tokens_in_vocabulary.S_.Idx := ⟨fun p q => funext fun t => t.elim0⟩
    exact Host.reduce_andi_all _ _ _ _ _ (congrFun h (fun t => t.elim0)) (ix2 a b)
  generalize y (ix2 a b) = w at e
  by_cases h0 : (0#32).sle w
  · by_cases h1 : w.slt 1000#32
    · have h0' := BitVec.sle_iff_toInt_le.1 h0
      have h1' := BitVec.slt_iff_toInt_lt.1 h1
      have hw := w.isLt
      have hz : (0#32).toInt = 0 := by decide
      have hk : (1000#32).toInt = 1000 := by decide
      rw [hz, BitVec.toInt_eq_toNat_cond] at h0'
      rw [hk, BitVec.toInt_eq_toNat_cond] at h1'
      split at h0' <;> split at h1' <;> omega
    · simp [IntOp.andi, IntOp.cmpi, h1] at e
  · simp [IntOp.andi, IntOp.cmpi, h0] at e

/-- The reference's frame. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) ∧ r.2.sem = fun _ => 0) :=
  (θ_run (Cert.ReferenceIdeal.defs (F := Ideal)) _ _).mono (fun r h => ⟨fun c => by
    have ha := (h.1 c).2
    exact ⟨ha _ (by decide +kernel), ha _ (by decide +kernel), ha _ (by decide +kernel), ha _ (by decide +kernel), ha _ (by decide +kernel), ha _ (by decide +kernel), ha _ (by decide +kernel), ha _ (by decide +kernel)⟩, h.2⟩) (Cert.ReferenceIdeal.Step.run_ref m g)

/-- The two programs' results. -/
theorem same : algebraic_KernelIdeal_ReferenceIdeal_pre_tokens_in_vocabulary := by
  intro m g m' g' hp hm
  refine ⟨fun c => (Cert.KernelIdeal.Gen.dats m 0 c).arrAt 7 Cert.KernelIdeal.cfg0.N, Cert.KernelIdeal.Value.run_blocks m g, ?_⟩
  refine (θ_run (Cert.ReferenceIdeal.defs (F := Ideal)) _ _).mono (fun r h c => ?_) (Cert.ReferenceIdeal.Step.run_ref m' g')
  obtain ⟨hv, ha⟩ := h.1 c
  refine ⟨hv.trans ?_, ha _ (by decide +kernel), ha _ (by decide +kernel), ha _ (by decide +kernel), ha _ (by decide +kernel), ha _ (by decide +kernel), ha _ (by decide +kernel), ha _ (by decide +kernel), ha _ (by decide +kernel)⟩
  obtain ⟨e0, e1, e2, e3, e4, e5, e6, e7⟩ := hm c
  have hy : ∀ a b : Fin 64, (Cert.Same.aY m' c (ix2 a b)).toNat < 1000 := by
    intro a b
    rw [show Cert.Same.aY m' c = _ from e0]
    exact target_lt _ _ _ _ _ _ _ _ (hp c) a b
  have hl := Cert.Same.left_eq m' c hy 63 rfl
  rw [show Cert.Same.aY m' c = _ from e0, show Cert.Same.aEmb m' c = _ from e1, show Cert.Same.aWi m' c = _ from e2,
    show Cert.Same.aWh m' c = _ from e3, show Cert.Same.aBi m' c = _ from e4, show Cert.Same.aBh m' c = _ from e5,
    show Cert.Same.aWo m' c = _ from e6, show Cert.Same.aBo m' c = _ from e7] at hl
  exact hl.symm.trans (Cert.KernelIdeal.Step.array_eq m c).symm

theorem claim : Cert.Claim :=
  ⟨Cert.Kernel.Gen.facts, Cert.KernelIdeal.Gen.facts, Cert.ReferenceIdeal.Gen.facts, Cert.Pre_tokens_in_vocabulary.Gen.facts,
    fun m ρ _ => Cert.Kernel.Gen.frame m ρ, fun m ρ _ => Cert.KernelIdeal.Gen.frame m ρ, fun m ρ _ => Cert.KernelIdeal.Gen.frame m ρ,
    fun m ρ _ => frame_ref m ρ, fun m ρ _ => frame_ref m ρ, trivial, same⟩

end Cert.Proof

end
